-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_v140) = v3 c
          ∧ r.2.mem ((c.tc : Thread Cert.ReferenceIdeal.nD Cert.ReferenceIdeal.τ).loc Cert.ReferenceIdeal.main_v141) = v4 c
          ∧ r.2.mem ((c.tc : Thread Cert.ReferenceIdeal.nD Cert.ReferenceIdeal.τ).loc Cert.ReferenceIdeal.main_v142) = v5 c
          ∧ r.2.mem ((c.tc : Thread Cert.ReferenceIdeal.nD Cert.ReferenceIdeal.τ).loc Cert.ReferenceIdeal.main_v143) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x768x2048 : Shape := ⟨3, ![1, 768, 2048]⟩
abbrev S1024x2x5632 : Shape := ⟨3, ![1024, 2, 5632]⟩
abbrev S16x2x5632 : Shape := ⟨3, ![16, 2, 5632]⟩
abbrev S768x2048 : Shape := ⟨2, ![768, 2048]⟩
abbrev S2x1024x5632 : Shape := ⟨3, ![2, 1024, 5632]⟩
abbrev S2x16x5632 : Shape := ⟨3, ![2, 16, 5632]⟩
abbrev S768x5632 : Shape := ⟨2, ![768, 5632]⟩
abbrev S768x1024 : Shape := ⟨2, ![768, 1024]⟩
abbrev S768x16 : Shape := ⟨2, ![768, 16]⟩
abbrev S768x2816 : Shape := ⟨2, ![768, 2816]⟩
abbrev S768x44 : Shape := ⟨2, ![768, 44]⟩
abbrev S2x1024x256 : Shape := ⟨3, ![2, 1024, 256]⟩
abbrev S2x16x256 : Shape := ⟨3, ![2, 16, 256]⟩
abbrev S768x256 : Shape := ⟨2, ![768, 256]⟩
abbrev S768x128 : Shape := ⟨2, ![768, 128]⟩
abbrev S2x2048x256 : Shape := ⟨3, ![2, 2048, 256]⟩
abbrev S2x768x256 : Shape := ⟨3, ![2, 768, 256]⟩
abbrev S32x128 : Shape := ⟨2, ![32, 128]⟩
abbrev S32 : Shape := ⟨1, ![32]⟩
abbrev S32x1 : Shape := ⟨2, ![32, 1]⟩
abbrev S8x128 : Shape := ⟨2, ![8, 128]⟩
abbrev S8x128x1 : Shape := ⟨3, ![8, 128, 1]⟩
abbrev S32x16 : Shape := ⟨2, ![32, 16]⟩
abbrev S1x64x256 : Shape := ⟨3, ![1, 64, 256]⟩
abbrev S64x256 : Shape := ⟨2, ![64, 256]⟩
abbrev S128x256 : Shape := ⟨2, ![128, 256]⟩
abbrev S1x1x256 : Shape := ⟨3, ![1, 1, 256]⟩
abbrev S1x256 : Shape := ⟨2, ![1, 256]⟩
abbrev S1x128x256 : Shape := ⟨3, ![1, 128, 256]⟩
abbrev S1x2048x256 : Shape := ⟨3, ![1, 2048, 256]⟩
abbrev S2048x256 : Shape := ⟨2, ![2048, 256]⟩
abbrev S1x768x256 : Shape := ⟨3, ![1, 768, 256]⟩
abbrev S32x44 : Shape := ⟨2, ![32, 44]⟩
abbrev S1x32x128 : Shape := ⟨3, ![1, 32, 128]⟩

abbrev nBuf : Space → Nat
  | .hbm => 13
  | .vmem => 17
  | .smem => 0
  | _ => 0

abbrev bufTy : (tb : Table) → Fin (tcTables nBuf tb) → BufTy
  | .hbm, ⟨0, _⟩ => ⟨S1x768x2048, .bf16⟩
  | .hbm, ⟨1, _⟩ => ⟨S1024x2x5632, .i8⟩
  | .hbm, ⟨2, _⟩ => ⟨S16x2x5632, .f32⟩
  | .hbm, ⟨3, _⟩ => ⟨S768x2048, .bf16⟩
  | .hbm, ⟨4, _⟩ => ⟨S2x1024x5632, .i8⟩
  | .hbm, ⟨5, _⟩ => ⟨S2x16x5632, .f32⟩
  | .hbm, ⟨6, _⟩ => ⟨S768x5632, .bf16⟩
  | .hbm, ⟨7, _⟩ => ⟨S768x1024, .i8⟩
  | .hbm, ⟨8, _⟩ => ⟨S768x16, .f32⟩
  | .hbm, ⟨9, _⟩ => ⟨S768x16, .i8⟩
  | .hbm, ⟨10, _⟩ => ⟨S768x2816, .i8⟩
  | .hbm, ⟨11, _⟩ => ⟨S768x44, .f32⟩
  | .hbm, ⟨12, _⟩ => ⟨S768x44, .i8⟩
  | .local _ .vmem, ⟨0, _⟩ => ⟨S768x2048, .bf16⟩
  | .local _ .vmem, ⟨1, _⟩ => ⟨S2x1024x256, .i8⟩
  | .local _ .vmem, ⟨2, _⟩ => ⟨S2x1024x256, .i8⟩
  | .local _ .vmem, ⟨3, _⟩ => ⟨S2x16x256, .f32⟩
  | .local _ .vmem, ⟨4, _⟩ => ⟨S2x16x256, .f32⟩
  | .local _ .vmem, ⟨5, _⟩ => ⟨S768x256, .bf16⟩
  | .local _ .vmem, ⟨6, _⟩ => ⟨S768x256, .bf16⟩
  | .local _ .vmem, ⟨7, _⟩ => ⟨S768x1024, .i8⟩
  | .local _ .vmem, ⟨8, _⟩ => ⟨S768x16, .f32⟩
  | .local _ .vmem, ⟨9, _⟩ => ⟨S768x16, .i8⟩
  | .local _ .vmem, ⟨10, _⟩ => ⟨S768x128, .i8⟩
  | .local _ .vmem, ⟨11, _⟩ => ⟨S768x128, .i8⟩
  | .local _ .vmem, ⟨12, _⟩ => ⟨S768x44, .f32⟩
  | .local _ .vmem, ⟨13, _⟩ => ⟨S768x44, .i8⟩
  | .local _ .vmem, ⟨14, _⟩ => ⟨S768x2048, .bf16⟩
  | .local _ .vmem, ⟨15, _⟩ => ⟨S2x2048x256, .bf16⟩
  | .local _ .vmem, ⟨16, _⟩ => ⟨S2x768x256, .f32⟩
  | _, _ => ⟨S1x768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_423 : BitVec 32 := 0#32
  let c24_i32_424 : BitVec 32 := 24#32
  let v787 : BitVec 32 := Scalar.addi c0_i32_423 c24_i32_424
  let c1_i32_425 : BitVec 32 := 1#32
  ⟨c0_i32_423, v787, c1_i32_425⟩
def k0_off1 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v795 : Index := Scalar.indexCast v792
  let c0_434 : Index := 0#32
  ![v795.toNat, 0]
def k0_off2 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v859 : Index := Scalar.indexCast v792
  let c128_451 : Index := 128#32
  ![v859.toNat, 128]
def k0_off3 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v955 : Index := Scalar.indexCast v792
  let c0_476 : Index := 0#32
  ![v955.toNat, 0]
def k0_off4 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v957 : Index := Scalar.indexCast v792
  let c256_477 : Index := 256#32
  ![v957.toNat, 256]
def k0_off5 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1021 : Index := Scalar.indexCast v792
  let c384_495 : Index := 384#32
  ![v1021.toNat, 384]
def k0_off6 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1117 : Index := Scalar.indexCast v792
  let c128_524 : Index := 128#32
  ![v1117.toNat, 128]
def k0_off7 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1119 : Index := Scalar.indexCast v792
  let c512_525 : Index := 512#32
  ![v1119.toNat, 512]
def k0_off8 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1183 : Index := Scalar.indexCast v792
  let c640_543 : Index := 640#32
  ![v1183.toNat, 640]
def k0_off9 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1279 : Index := Scalar.indexCast v792
  let c256_572 : Index := 256#32
  ![v1279.toNat, 256]
def k0_off10 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1281 : Index := Scalar.indexCast v792
  let c768_573 : Index := 768#32
  ![v1281.toNat, 768]
def k0_off11 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1345 : Index := Scalar.indexCast v792
  let c896_590 : Index := 896#32
  ![v1345.toNat, 896]
def k0_off12 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1441 : Index := Scalar.indexCast v792
  let c384_619 : Index := 384#32
  ![v1441.toNat, 384]
def k0_off13 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1443 : Index := Scalar.indexCast v792
  let c1024_620 : Index := 1024#32
  ![v1443.toNat, 1024]
def k0_off14 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1507 : Index := Scalar.indexCast v792
  let c1152_637 : Index := 1152#32
  ![v1507.toNat, 1152]
def k0_off15 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1603 : Index := Scalar.indexCast v792
  let c512_666 : Index := 512#32
  ![v1603.toNat, 512]
def k0_off16 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1605 : Index := Scalar.indexCast v792
  let c1280_667 : Index := 1280#32
  ![v1605.toNat, 1280]
def k0_off17 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1669 : Index := Scalar.indexCast v792
  let c1408_684 : Index := 1408#32
  ![v1669.toNat, 1408]
def k0_off18 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1765 : Index := Scalar.indexCast v792
  let c640_713 : Index := 640#32
  ![v1765.toNat, 640]
def k0_off19 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1767 : Index := Scalar.indexCast v792
  let c1536_714 : Index := 1536#32
  ![v1767.toNat, 1536]
def k0_off20 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1831 : Index := Scalar.indexCast v792
  let c1664_732 : Index := 1664#32
  ![v1831.toNat, 1664]
def k0_off21 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1927 : Index := Scalar.indexCast v792
  let c768_761 : Index := 768#32
  ![v1927.toNat, 768]
def k0_off22 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1929 : Index := Scalar.indexCast v792
  let c1792_762 : Index := 1792#32
  ![v1929.toNat, 1792]
def k0_off23 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v1993 : Index := Scalar.indexCast v792
  let c1920_779 : Index := 1920#32
  ![v1993.toNat, 1920]
def k0_off24 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v2089 : Index := Scalar.indexCast v792
  let c896_809 : Index := 896#32
  ![v2089.toNat, 896]
def k0_off25 (k0_t1 : Fin k0_t1_loop.trips) : Fin 2 → Nat :=
  let c0_i32_423 : BitVec 32 := 0#32
  let c1_i32_425 : BitVec 32 := 1#32
  let arg14 : BitVec 32 := Scf.iv c0_i32_423 c1_i32_425 k0_t1
  let c32_i32 : BitVec 32 := 32#32
  let v792 : BitVec 32 := Scalar.muli arg14 c32_i32
  let v2092 : Index := Scalar.indexCast v792
  let c0_810 : Index := 0#32
  ![v2092.toNat, 0]
@[reducible] def k0_t2_loop : Scf.Loop 32 :=
  let c0_i32_420 : BitVec 32 := 0#32
  let c24_i32_421 : BitVec 32 := 24#32
  let v785 : BitVec 32 := Scalar.addi c0_i32_420 c24_i32_421
  let c1_i32 : BitVec 32 := 1#32
  ⟨c0_i32_420, v785, c1_i32⟩
def k0_off26 (k0_t2 : Fin k0_t2_loop.trips) : Fin 2 → Nat :=
  let c0_i32_420 : BitVec 32 := 0#32
  let c1_i32 : BitVec 32 := 1#32
  let arg14 : BitVec 32 := Scf.iv c0_i32_420 c1_i32 k0_t2
  let c32_i32 : BitVec 32 := 32#32
  let v786 : BitVec 32 := Scalar.muli arg14 c32_i32
  let v787 : Index := Scalar.indexCast v786
  let c0_423 : Index := 0#32
  ![v787.toNat, 0]
def k0_off27 (k0_t2 : Fin k0_t2_loop.trips) : Fin 3 → Nat :=
  let c0_425 : Index := 0#32
  let c0_i32_420 : BitVec 32 := 0#32
  let c1_i32 : BitVec 32 := 1#32
  let arg14 : BitVec 32 := Scf.iv c0_i32_420 c1_i32 k0_t2
  let c32_i32 : BitVec 32 := 32#32
  let v786 : BitVec 32 := Scalar.muli arg14 c32_i32
  let v795 : Index := Scalar.indexCast v786
  let c0_426 : Index := 0#32
  ![0, v795.toNat, 0]
def k0_off28 (k0_t2 : Fin k0_t2_loop.trips) : Fin 3 → Nat :=
  let c1_427 : Index := 1#32
  let c0_i32_420 : BitVec 32 := 0#32
  let c1_i32 : BitVec 32 := 1#32
  let arg14 : BitVec 32 := Scf.iv c0_i32_420 c1_i32 k0_t2
  let c32_i32 : BitVec 32 := 32#32
  let v786 : BitVec 32 := Scalar.muli arg14 c32_i32
  let v798 : Index := Scalar.indexCast v786
  let c0_428 : Index := 0#32
  ![1, v798.toNat, 0]
def k0_off29 (k0_t2 : Fin k0_t2_loop.trips) : Fin 2 → Nat :=
  let c0_i32_420 : BitVec 32 := 0#32
  let c1_i32 : BitVec 32 := 1#32
  let arg14 : BitVec 32 := Scf.iv c0_i32_420 c1_i32 k0_t2
  let c32_i32 : BitVec 32 := 32#32
  let v786 : BitVec 32 := Scalar.muli arg14 c32_i32
  let v809 : Index := Scalar.indexCast v786
  let c0_431 : Index := 0#32
  ![v809.toNat, 0]
def k0_off30 (k0_t2 : Fin k0_t2_loop.trips) : Fin 3 → Nat :=
  let c0_445 : Index := 0#32
  let c0_i32_420 : BitVec 32 := 0#32
  let c1_i32 : BitVec 32 := 1#32
  let arg14 : BitVec 32 := Scf.iv c0_i32_420 c1_i32 k0_t2
  let c32_i32 : BitVec 32 := 32#32
  let v786 : BitVec 32 := Scalar.muli arg14 c32_i32
  let v862 : Index := Scalar.indexCast v786
  let c128_446 : Index := 128#32
  ![0, v862.toNat, 128]
def k0_off31 (k0_t2 : Fin k0_t2_loop.trips) : Fin 3 → Nat :=
  let c1_447 : Index := 1#32
  let c0_i32_420 : BitVec 32 := 0#32
  let c1_i32 : BitVec 32 := 1#32
  let arg14 : BitVec 32 := Scf.iv c0_i32_420 c1_i32 k0_t2
  let c32_i32 : BitVec 32 := 32#32
  let v786 : BitVec 32 := Scalar.muli arg14 c32_i32
  let v865 : Index := Scalar.indexCast v786
  let c128_448 : Index := 128#32
  ![1, v865.toNat, 128]
def k0_off32 (k0_t2 : Fin k0_t2_loop.trips) : Fin 2 → Nat :=
  let c0_i32_420 : BitVec 32 := 0#32
  let c1_i32 : BitVec 32 := 1#32
  let arg14 : BitVec 32 := Scf.iv c0_i32_420 c1_i32 k0_t2
  let c32_i32 : BitVec 32 := 32#32
  let v786 : BitVec 32 := Scalar.muli arg14 c32_i32
  let v876 : Index := Scalar.indexCast v786
  let c128_451 : Index := 128#32
  ![v876.toNat, 128]
def k0_off33 (k0_t2 : Fin k0_t2_loop.trips) : Fin 2 → Nat :=
  let c0_i32_420 : BitVec 32 := 0#32
  let c1_i32 : BitVec 32 := 1#32
  let arg14 : BitVec 32 := Scf.iv c0_i32_420 c1_i32 k0_t2
  let c32_i32 : BitVec 32 := 32#32
  let v786 : BitVec 32 := Scalar.muli arg14 c32_i32
  let v961 : Index := Scalar.indexCast v786
  let c0_475 : Index := 0#32
  ![v961.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x1024x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x16 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S768x44 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x44 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1x768x2048 : Shape := ⟨3, ![1, 768, 2048]⟩
abbrev S1024x2x5632 : Shape := ⟨3, ![1024, 2, 5632]⟩
abbrev S16x2x5632 : Shape := ⟨3, ![16, 2, 5632]⟩
abbrev S1x768x16x128 : Shape := ⟨4, ![1, 768, 16, 128]⟩
abbrev S_ : Shape := ⟨0, ![]⟩
abbrev S1x768x16 : Shape := ⟨3, ![1, 768, 16]⟩
abbrev S1x768x16x1 : Shape := ⟨4, ![1, 768, 16, 1]⟩
abbrev S1x768x1024 : Shape := ⟨3, ![1, 768, 1024]⟩
abbrev S1x768x16x64x2 : Shape := ⟨5, ![1, 768, 16, 64, 2]⟩
abbrev S1x768x16x64x1 : Shape := ⟨5, ![1, 768, 16, 64, 1]⟩
abbrev S1x768x16x64 : Shape := ⟨4, ![1, 768, 16, 64]⟩
abbrev S768x1024 : Shape := ⟨2, ![768, 1024]⟩
abbrev S2x1024x5632 : Shape := ⟨3, ![2, 1024, 5632]⟩
abbrev S2x16x5632 : Shape := ⟨3, ![2, 16, 5632]⟩
abbrev S2x16x64x5632 : Shape := ⟨4, ![2, 16, 64, 5632]⟩
abbrev S2x16x1x5632 : Shape := ⟨4, ![2, 16, 1, 5632]⟩
abbrev S2x5632x768 : Shape := ⟨3, ![2, 5632, 768]⟩
abbrev S2x768x5632 : Shape := ⟨3, ![2, 768, 5632]⟩
abbrev S1x768x5632 : Shape := ⟨3, ![1, 768, 5632]⟩
abbrev S768x5632 : Shape := ⟨2, ![768, 5632]⟩
abbrev S1x768x44x128 : Shape := ⟨4, ![1, 768, 44, 128]⟩
abbrev S1x768x44 : Shape := ⟨3, ![1, 768, 44]⟩
abbrev S1x768x44x1 : Shape := ⟨4, ![1, 768, 44, 1]⟩
abbrev S1x768x2816 : Shape := ⟨3, ![1, 768, 2816]⟩
abbrev S768x16 : Shape := ⟨2, ![768, 16]⟩
abbrev S768x2816 : Shape := ⟨2, ![768, 2816]⟩
abbrev S768x44 : Shape := ⟨2, ![768, 44]⟩

abbrev nBuf : Space → Nat
  | .hbm => 193
  | .vmem => 0
  | .smem => 0
  | _ => 0

abbrev hbmTy0_0 (i : Nat) : BufTy := match i % 128 with
  | 0 => ⟨S1x768x2048, .bf16⟩
  | 1 => ⟨S1024x2x5632, .i8⟩
  | 2 => ⟨S16x2x5632, .f32⟩
  | 3 => ⟨S1x768x2048, .f32⟩
  | 4 => ⟨S1x768x16x128, .f32⟩
  | 5 => ⟨S_, .f32⟩
  | 6 => ⟨S1x768x16, .f32⟩
  | 7 => ⟨S_, .f32⟩
  | 8 => ⟨S1x768x16, .f32⟩
  | 9 => ⟨S1x768x16, .f32⟩
  | 10 => ⟨S_, .f32⟩
  | 11 => ⟨S1x768x16, .f32⟩
  | 12 => ⟨S_, .f32⟩
  | 13 => ⟨S1x768x16, .f32⟩
  | 14 => ⟨S1x768x16, .f32⟩
  | 15 => ⟨S1x768x16, .i1⟩
  | 16 => ⟨S1x768x16, .f32⟩
  | 17 => ⟨S_, .f32⟩
  | 18 => ⟨S1x768x16, .f32⟩
  | 19 => ⟨S1x768x16, .f32⟩
  | 20 => ⟨S_, .f32⟩
  | 21 => ⟨S_, .f32⟩
  | 22 => ⟨S1x768x16, .f32⟩
  | 23 => ⟨S1x768x16, .f32⟩
  | 24 => ⟨S1x768x16, .f32⟩
  | 25 => ⟨S1x768x16, .f32⟩
  | 26 => ⟨S1x768x16, .f32⟩
  | 27 => ⟨S1x768x16x1, .f32⟩
  | 28 => ⟨S1x768x16x128, .f32⟩
  | 29 => ⟨S1x768x16x128, .f32⟩
  | 30 => ⟨S1x768x16x128, .f32⟩
  | 31 => ⟨S1x768x16x1, .f32⟩
  | 32 => ⟨S1x768x16x128, .f32⟩
  | 33 => ⟨S1x768x16x128, .f32⟩
  | 34 => ⟨S_, .f32⟩
  | 35 => ⟨S_, .f32⟩
  | 36 => ⟨S_, .f32⟩
  | 37 => ⟨S1x768x16x128, .f32⟩
  | 38 => ⟨S1x768x16x128, .f32⟩
  | 39 => ⟨S_, .f32⟩
  | 40 => ⟨S1x768x16x128, .f32⟩
  | 41 => ⟨S1x768x16x128, .f32⟩
  | 42 => ⟨S1x768x16x128, .i32⟩
  | 43 => ⟨S1x768x16x128, .i8⟩
  | 44 => ⟨S1x768x16, .i32⟩
  | 45 => ⟨S1x768x16, .i8⟩
  | 46 => ⟨S1x768x2048, .i8⟩
  | 47 => ⟨S1x768x2048, .i32⟩
  | 48 => ⟨S1x768x1024, .i32⟩
  | 49 => ⟨S1x768x1024, .i32⟩
  | 50 => ⟨S_, .i32⟩
  | 51 => ⟨S1x768x1024, .i32⟩
  | 52 => ⟨S1x768x1024, .i32⟩
  | 53 => ⟨S1x768x1024, .i32⟩
  | 54 => ⟨S1x768x1024, .i8⟩
  | 55 => ⟨S1x768x16x64x2, .i8⟩
  | 56 => ⟨S1x768x16x64x2, .i32⟩
  | 57 => ⟨S1x768x16, .i32⟩
  | 58 => ⟨S1x768x16x1, .i32⟩
  | 59 => ⟨S1x768x16, .bf16⟩
  | 60 => ⟨S1x768x16x1, .bf16⟩
  | 61 => ⟨S1x768x16x64x1, .i32⟩
  | 62 => ⟨S1x768x16x64, .i32⟩
  | 63 => ⟨S1x768x16x64, .i32⟩
  | 64 => ⟨S1x768x16x64, .i32⟩
  | 65 => ⟨S1x768x16x64, .bf16⟩
  | 66 => ⟨S1x768x16x64, .bf16⟩
  | 67 => ⟨S1x768x16x64, .bf16⟩
  | 68 => ⟨S768x1024, .bf16⟩
  | 69 => ⟨S1x768x16x64x1, .i32⟩
  | 70 => ⟨S1x768x16x64, .i32⟩
  | 71 => ⟨S1x768x16x64, .i32⟩
  | 72 => ⟨S1x768x16x64, .i32⟩
  | 73 => ⟨S1x768x16x64, .bf16⟩
  | 74 => ⟨S1x768x16x64, .bf16⟩
  | 75 => ⟨S1x768x16x64, .bf16⟩
  | 76 => ⟨S768x1024, .bf16⟩
  | 77 => ⟨S2x1024x5632, .i8⟩
  | 78 => ⟨S2x1024x5632, .i32⟩
  | 79 => ⟨S2x16x5632, .f32⟩
  | 80 => ⟨S2x16x5632, .bf16⟩
  | 81 => ⟨S_, .i32⟩
  | 82 => ⟨S2x1024x5632, .i32⟩
  | 83 => ⟨S2x1024x5632, .i32⟩
  | 84 => ⟨S_, .i32⟩
  | 85 => ⟨S2x1024x5632, .i32⟩
  | 86 => ⟨S2x1024x5632, .i1⟩
  | 87 => ⟨S_, .i32⟩
  | 88 => ⟨S2x1024x5632, .i32⟩
  | 89 => ⟨S2x1024x5632, .i32⟩
  | 90 => ⟨S2x1024x5632, .i32⟩
  | 91 => ⟨S2x1024x5632, .bf16⟩
  | 92 => ⟨S2x16x64x5632, .bf16⟩
  | 93 => ⟨S2x16x1x5632, .bf16⟩
  | 94 => ⟨S2x16x64x5632, .bf16⟩
  | 95 => ⟨S2x16x64x5632, .bf16⟩
  | 96 => ⟨S2x1024x5632, .bf16⟩
  | 97 => ⟨S_, .i32⟩
  | 98 => ⟨S2x1024x5632, .i32⟩
  | 99 => ⟨S2x1024x5632, .i32⟩
  | 100 => ⟨S_, .i32⟩
  | 101 => ⟨S2x1024x5632, .i32⟩
  | 102 => ⟨S2x1024x5632, .i1⟩
  | 103 => ⟨S_, .i32⟩
  | 104 => ⟨S2x1024x5632, .i32⟩
  | 105 => ⟨S2x1024x5632, .i32⟩
  | 106 => ⟨S2x1024x5632, .i32⟩
  | 107 => ⟨S2x1024x5632, .bf16⟩
  | 108 => ⟨S2x16x64x5632, .bf16⟩
  | 109 => ⟨S2x16x1x5632, .bf16⟩
  | 110 => ⟨S2x16x64x5632, .bf16⟩
  | 111 => ⟨S2x16x64x5632, .bf16⟩
  | 112 => ⟨S2x1024x5632, .bf16⟩
  | 113 => ⟨S2x5632x768, .f32⟩
  | 114 => ⟨S2x768x5632, .f32⟩
  | 115 => ⟨S2x5632x768, .f32⟩
  | 116 => ⟨S2x768x5632, .f32⟩
  | 117 => ⟨S2x768x5632, .f32⟩
  | 118 => ⟨S1x768x5632, .f32⟩
  | 119 => ⟨S768x5632, .f32⟩
  | 120 => ⟨S768x5632, .f32⟩
  | 121 => ⟨S768x5632, .f32⟩
  | 122 => ⟨S_, .f32⟩
  | 123 => ⟨S768x5632, .f32⟩
  | 124 => ⟨S768x5632, .f32⟩
  | 125 => ⟨S_, .f32⟩
  | 126 => ⟨S768x5632, .f32⟩
  | 127 => ⟨S768x5632, .f32⟩
  | _ => ⟨S1x768x2048, .bf16⟩

abbrev hbmTy0_1 (i : Nat) : BufTy := match i % 128 with
  | 0 => ⟨S768x5632, .f32⟩
  | 1 => ⟨S1x768x5632, .f32⟩
  | 2 => ⟨S768x5632, .f32⟩
  | 3 => ⟨S768x5632, .f32⟩
  | 4 => ⟨S768x5632, .bf16⟩
  | 5 => ⟨S1x768x5632, .bf16⟩
  | 6 => ⟨S1x768x5632, .f32⟩
  | 7 => ⟨S1x768x44x128, .f32⟩
  | 8 => ⟨S_, .f32⟩
  | 9 => ⟨S1x768x44, .f32⟩
  | 10 => ⟨S_, .f32⟩
  | 11 => ⟨S1x768x44, .f32⟩
  | 12 => ⟨S1x768x44, .f32⟩
  | 13 => ⟨S_, .f32⟩
  | 14 => ⟨S1x768x44, .f32⟩
  | 15 => ⟨S_, .f32⟩
  | 16 => ⟨S1x768x44, .f32⟩
  | 17 => ⟨S1x768x44, .f32⟩
  | 18 => ⟨S1x768x44, .i1⟩
  | 19 => ⟨S1x768x44, .f32⟩
  | 20 => ⟨S_, .f32⟩
  | 21 => ⟨S1x768x44, .f32⟩
  | 22 => ⟨S1x768x44, .f32⟩
  | 23 => ⟨S_, .f32⟩
  | 24 => ⟨S_, .f32⟩
  | 25 => ⟨S1x768x44, .f32⟩
  | 26 => ⟨S1x768x44, .f32⟩
  | 27 => ⟨S1x768x44, .f32⟩
  | 28 => ⟨S1x768x44, .f32⟩
  | 29 => ⟨S1x768x44, .f32⟩
  | 30 => ⟨S1x768x44x1, .f32⟩
  | 31 => ⟨S1x768x44x128, .f32⟩
  | 32 => ⟨S1x768x44x128, .f32⟩
  | 33 => ⟨S1x768x44x128, .f32⟩
  | 34 => ⟨S1x768x44x1, .f32⟩
  | 35 => ⟨S1x768x44x128, .f32⟩
  | 36 => ⟨S1x768x44x128, .f32⟩
  | 37 => ⟨S_, .f32⟩
  | 38 => ⟨S_, .f32⟩
  | 39 => ⟨S_, .f32⟩
  | 40 => ⟨S1x768x44x128, .f32⟩
  | 41 => ⟨S1x768x44x128, .f32⟩
  | 42 => ⟨S_, .f32⟩
  | 43 => ⟨S1x768x44x128, .f32⟩
  | 44 => ⟨S1x768x44x128, .f32⟩
  | 45 => ⟨S1x768x44x128, .i32⟩
  | 46 => ⟨S1x768x44x128, .i8⟩
  | 47 => ⟨S1x768x44, .i32⟩
  | 48 => ⟨S1x768x44, .i8⟩
  | 49 => ⟨S1x768x5632, .i8⟩
  | 50 => ⟨S1x768x5632, .i32⟩
  | 51 => ⟨S1x768x2816, .i32⟩
  | 52 => ⟨S1x768x2816, .i32⟩
  | 53 => ⟨S_, .i32⟩
  | 54 => ⟨S1x768x2816, .i32⟩
  | 55 => ⟨S1x768x2816, .i32⟩
  | 56 => ⟨S1x768x2816, .i32⟩
  | 57 => ⟨S1x768x2816, .i8⟩
  | 58 => ⟨S768x5632, .bf16⟩
  | 59 => ⟨S768x1024, .i8⟩
  | 60 => ⟨S768x16, .f32⟩
  | 61 => ⟨S768x16, .i8⟩
  | 62 => ⟨S768x2816, .i8⟩
  | 63 => ⟨S768x44, .f32⟩
  | 64 => ⟨S768x44, .i8⟩
  | _ => ⟨S1x768x2048, .bf16⟩

abbrev hbmTy (i : Nat) : BufTy := match i / 128 with
  | 0 => hbmTy0_0 i
  | 1 => hbmTy0_1 i
  | _ => ⟨S1x768x2048, .bf16⟩

abbrev bufTy : (tb : Table) → Fin (tcTables nBuf tb) → BufTy
  | .hbm, ⟨i, _⟩ => hbmTy i
  | _, _ => ⟨S1x768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_cst_6 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_7 : Ref sig .tc := ⟨.hbm, 81, rfl⟩
abbrev main_v62 : Ref sig .tc := ⟨.hbm, 82, rfl⟩
abbrev main_v63 : Ref sig .tc := ⟨.hbm, 83, rfl⟩
abbrev main_c_8 : Ref sig .tc := ⟨.hbm, 84, rfl⟩
abbrev main_v64 : Ref sig .tc := ⟨.hbm, 85, rfl⟩
abbrev main_v65 : Ref sig .tc := ⟨.hbm, 86, rfl⟩
abbrev main_c_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_10 : Ref sig .tc := ⟨.hbm, 97, rfl⟩
abbrev main_v75 : Ref sig .tc := ⟨.hbm, 98, rfl⟩
abbrev main_v76 : Ref sig .tc := ⟨.hbm, 99, rfl⟩
abbrev main_c_11 : Ref sig .tc := ⟨.hbm, 100, rfl⟩
abbrev main_v77 : Ref sig .tc := ⟨.hbm, 101, rfl⟩
abbrev main_v78 : Ref sig .tc := ⟨.hbm, 102, rfl⟩
abbrev main_c_12 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_call6_v0 : Ref sig .tc := ⟨.hbm, 120, rfl⟩
abbrev main_call6_v1 : Ref sig .tc := ⟨.hbm, 121, rfl⟩
abbrev main_call6_cst : Ref sig .tc := ⟨.hbm, 122, rfl⟩
abbrev main_call6_v2 : Ref sig .tc := ⟨.hbm, 123, rfl⟩
abbrev main_call6_v3 : Ref sig .tc := ⟨.hbm, 124, rfl⟩
abbrev main_call6_cst_0 : Ref sig .tc := ⟨.hbm, 125, rfl⟩
abbrev main_call6_v4 : Ref sig .tc := ⟨.hbm, 126, rfl⟩
abbrev main_call6_v5 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_13 : Ref sig .tc := ⟨.hbm, 136, rfl⟩
abbrev main_v103 : Ref sig .tc := ⟨.hbm, 137, rfl⟩
abbrev main_cst_14 : Ref sig .tc := ⟨.hbm, 138, rfl⟩
abbrev main_v104 : Ref sig .tc := ⟨.hbm, 139, rfl⟩
abbrev main_v105 : Ref sig .tc := ⟨.hbm, 140, rfl⟩
abbrev main_cst_15 : Ref sig .tc := ⟨.hbm, 141, rfl⟩
abbrev main_v106 : Ref sig .tc := ⟨.hbm, 142, rfl⟩
abbrev main_cst_16 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_17 : Ref sig .tc := ⟨.hbm, 148, rfl⟩
abbrev main_v111 : Ref sig .tc := ⟨.hbm, 149, rfl⟩
abbrev main_v112 : Ref sig .tc := ⟨.hbm, 150, rfl⟩
abbrev main_cst_18 : Ref sig .tc := ⟨.hbm, 151, rfl⟩
abbrev main_call7_v0 : Ref sig .tc := ⟨.hbm, 152, rfl⟩
abbrev main_call7_v1 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_19 : Ref sig .tc := ⟨.hbm, 165, rfl⟩
abbrev main_cst_20 : Ref sig .tc := ⟨.hbm, 166, rfl⟩
abbrev main_call10_v0 : Ref sig .tc := ⟨.hbm, 167, rfl⟩
abbrev main_call10_v1 : Ref sig .tc := ⟨.hbm, 168, rfl⟩
abbrev main_call10_v2 : Ref sig .tc := ⟨.hbm, 169, rfl⟩
abbrev main_call10_v3 : Ref sig .tc := ⟨.hbm, 170, rfl⟩
abbrev main_call10_v4 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_c_21 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩

abbrev nD : Nat := 1
abbrev τ : Topo := Topo.v7x

variable {F : FTy → Type} [FloatOps F]
-- ==== Proof.Frame.Runs.lean ====
/- The frame of the kernel, first part: what memory holds when the grid starts, the blocks the windows read, the condition of the
   body's one conditional and the names of the staging and scratch buffers. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the grid -/

/-- What the buffers hold when the grid starts: the host operations have run. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the grid: the host operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the grid writes `main_arg0`: the grid finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the grid writes `main_arg1`: the grid finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the grid writes `main_arg2`: the grid finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether or not it was fetched there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether or not it was fetched there. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether or not it was fetched there. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments unchanged -/

/-- The arguments are unchanged, from a run of the grid whose arrays are what the grid finds. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The condition of the body's one conditional, from the grid coordinates. -/
abbrev cond0_0 (i : grid0.Coords) : Prop := k0_cond1 i = 1#1
/-- It holds at the first point only. -/
theorem hcond0_0 : ∀ t : Fin cfg0.N, cond0_0 (grid0.coords t) ↔ t.val % 22 = 0 :=
  (fun t => by
    have ht : t.val < 22 := Nat.lt_of_lt_of_eq t.isLt N_0
    have e0 : (grid0.coords t 0).val = t.val / 1 % 22 := Pipeline.Grid.coords_val t 0 (by decide) rfl
    simp only [cond0_0, k0_cond1, e0]
    word_cmp
   : ∀ t : Fin grid0.N, cond0_0 (grid0.coords t) ↔ t.val % 22 = 0)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The buffers the body is given -/

/-- Each window's staging buffer at point `t`, and that it is a whole buffer. -/
abbrev ms0_0 (t : Fin cfg0.N) : Memref sig .tc .vmem S768x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x16x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x16 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x44 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768x44 .i8 := win0_9.stage (cfg0.slots t 9)
abbrev hs0_9 (t : Fin cfg0.N) : (ms0_9 t).IsWhole := hstage0_9 ((cfg0.slots t 9).cast nbuf0_9)
/-- The scratch buffers. -/
abbrev scM0_0 : Memref sig .tc .vmem S768x2048 .bf16 := Memref.whole cc0_scratch0
abbrev scM0_1 : Memref sig .tc .vmem S2x2048x256 .bf16 := Memref.whole cc0_scratch1
abbrev scM0_2 : Memref sig .tc .vmem S2x768x256 .f32 := Memref.whole cc0_scratch2
/-- The scratch buffer that keeps its contents between points. -/
abbrev VS0_0 : View sig .tc .vmem S768x2048 .bf16 := scM0_0.view

/-- What holds between points, with the scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.Frame.RunA.lean ====
/- The frame of the kernel, second part: the body at the grid's first point runs without fault. -/
module

public import proofs.«01_k».proof.Proof.Frame.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1052000 in
/-- What the body stores into the carried scratch at the first point, and that it runs without fault from any contents of its outputs. -/
noncomputable def kernelRun0_A (c : Dev nD) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (hc0 : cond0_0 i)
    (x0 : Vec F S768x2048 .bf16) (x1 : Vec F S2x1024x256 .i8) (x2 : Vec F S2x16x256 .f32) :
    { LS0 : List (View.Piece (Elt F) S768x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0) ∗ (∃ d, owns (c : Thread nD τ) arg12 fullShare d) ∗ (∃ d, owns (c : Thread nD τ) arg13 fullShare d)) -∗ K ⟨⟩))
          ⊢ wp frame (wpE (defs₀ (F := F)) Variants.none c none) E (cc0_w4a4_swiglu i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_w4a4_swiglu_eq_skeleton]; unfold cc0_w4a4_swiglu_skel
    simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]; · iexists _; iexact HS0
    isplitl [HS1]
    · iexists _, _; isplitr; swap; · iexact HS1
      ipureintro; rfl
    iexists _, _; isplitr; swap; · iexact HS2
    ipureintro; rfl

end Cert.Kernel.Gen

end
-- ==== Proof.Frame.RunB.lean ====
/- The frame of the kernel, third part: the body at a later grid point runs without fault. -/
module

public import proofs.«01_k».proof.Proof.Frame.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores into the carried scratch at a later point, and that it runs without fault from any contents of its outputs. -/
noncomputable def kernelRun0_B (c : Dev nD) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (hc0 : ¬cond0_0 i)
    (x0 : Vec F S768x2048 .bf16) (x1 : Vec F S2x1024x256 .i8) (x2 : Vec F S2x16x256 .f32) (xs0 : Vec F S768x2048 .bf16) :
    { LS0 : List (View.Piece (Elt F) S768x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d)) -∗ K ⟨⟩))
          ⊢ wp frame (wpE (defs₀ (F := F)) Variants.none c none) E (cc0_w4a4_swiglu i arg1 harg1 arg2 harg2 arg3 harg3 arg4 harg4 arg5 harg5 arg6 harg6 arg7 harg7 arg8 harg8 arg9 harg9 arg10 harg10 arg11 harg11 arg12 harg12 arg13 harg13) K } := by
  refine ⟨[], fun E K => ?run⟩
  case run =>
    simp only [cc0_w4a4_swiglu_eq_skeleton]; unfold cc0_w4a4_swiglu_skel
    simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg11.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _; isplitr; · ipureintro; exact harg11.read_unread _
      iexact HS0
    isplitl [HS1]
    · iexists _, _; isplitr; swap; · iexact HS1
      ipureintro; rfl
    iexists _, _; isplitr; swap; · iexact HS2
    ipureintro; rfl

end Cert.Kernel.Gen

end
-- ==== Proof.Frame.FrameRun.lean ====
/- The frame of the kernel, last part: the two cases of the body joined into a run of the whole grid, which terminates without fault
   and leaves the arguments unchanged. -/
module

public import proofs.«01_k».proof.Proof.Frame.RunB
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces stored into the carried scratch at the first point cover it. -/
theorem scover0_A_0 (c : Dev nD) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (hc0 : cond0_0 i)
    (x0 : Vec F S768x2048 .bf16) (x1 : Vec F S2x1024x256 .i8) (x2 : Vec F S2x16x256 .f32) (y : S768x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2).1 S32x128.size (by sl_kernel_rfl) y

/-- What the first point leaves in the carried scratch. -/
def sout0_A_0 (c : Dev nD) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (hc0 : cond0_0 i)
    (x0 : Vec F S768x2048 .bf16) (x1 : Vec F S2x1024x256 .i8) (x2 : Vec F S2x16x256 .f32) : Vec F S768x2048 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2).1)

/-- A later point stores nothing into the carried scratch. -/
def sout0_B_0 (c : Dev nD) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (hc0 : ¬cond0_0 i)
    (x0 : Vec F S768x2048 .bf16) (x1 : Vec F S2x1024x256 .i8) (x2 : Vec F S2x16x256 .f32) (xs0 : Vec F S768x2048 .bf16) : Vec F S768x2048 .bf16 := xs0

/-! ## What the carried scratch holds after each point -/

/-- What the carried scratch holds after each point. -/
def outsAt0 (c : Dev nD) : (n : ℕ) → n < cfg0.N → Vec F S768x2048 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 22 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- The same at the first point. -/
theorem outsAt0_A (c : Dev nD) (t : Fin cfg0.N) (h0 : t.val % 22 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) := by
  obtain ⟨n, hn⟩ := t
  cases n with
  | zero => exact rfl
  | succ n => exact (dif_pos h0).trans rfl

/-- The same at a later point. -/
theorem outsAt0_B (c : Dev nD) (t : Fin cfg0.N) (h0 : ¬t.val % 22 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What holds before point `n`: before the first point the scratch is at anything; afterwards the carried scratch is at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## What the buffers hold -/

/-- The output windows, of whose contents the frame says nothing. -/
def forgets0 : Fin 10 → Bool := fun w => w.val == 3 || w.val == 4 || w.val == 5 || w.val == 6 || w.val == 7 || w.val == 8 || w.val == 9

/-- What the arrays and the staging buffers hold, point by point: each input's buffer its block, the outputs' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := PhiS m c t.val (Nat.le_of_lt_succ t.isLt)
  q _ := fullShare
  owed _ := 0

/-- The arrays are what the grid finds. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 9600000 in
/-- The body at any point runs from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 22 := lt_of_lt_of_eq t.isLt (show cfg0.N = 22 from N_0)
  by_cases h0 : t.val % 22 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    by_cases hz : t.val = 0
    · rw [PhiS_castSucc m c t, PhiS_zero m c _ _ hz, PhiA0_eq]
      rw [outsAt0_A m c t h0]
      unfold sout0_A_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t)).2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      iintro ⟨H0, H1, H2, H3, H4, H5, H6, H7, H8, H9, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · exfalso; have hN : t.val < 22 := lt_of_lt_of_eq t.isLt (show cfg0.N = 22 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    by_cases hz : t.val = 0
    · exfalso; have hN : t.val < 22 := lt_of_lt_of_eq t.isLt (show cfg0.N = 22 from N_0); omega
    · rw [PhiS_castSucc m c t, PhiS_pos m c _ _ hz]
      rw [outsAt0_B m c t h0]
      unfold sout0_B_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) _).2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      iintro ⟨H0, H1, H2, H3, H4, H5, H6, H7, H8, H9, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body at point `t`, spelt out. -/
theorem defs₀_row (t : Fin cfg0.N) :
    defs₀ (F := F) .tc cfg0.body (cfg0.bodyArgs t (cfg0.slots t)) = bodyAt0 t := by
  unfold defs₀; rw [Defs.onTc_tc]

/-- The body runs at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the grid is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the carried scratch's contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 22 := N_0; omega)

/-! ## The run and the frame -/

set_option backward.isDefEq.respectTransparency.types false in
/-- The launch, with every counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- From any memory with zero counters every execution terminates, with the input arrays unchanged and every buffer outside the grid as the grid found it. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame: every execution terminates, the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Value.Ops.lean ====
/- The kernel's vector operations, gathered into one function per step of the quantiser: what one group of 128 lanes of 32 rows is
   turned into. The stores of the kernel's unrolled groups are all instances of these functions. -/
module

public import proofs.«01_k».proof.Proof.Gen.KernelIdeal.Skeleton
public import Idealize.ShloMosaic.Lib.Pointwise

@[expose] public section

set_option maxRecDepth 16384

noncomputable section

namespace Cert.KernelIdeal.Val

open Idealize.ShloMosaic Idealize.ShloMosaic.TcCoe
open Cert.KernelIdeal Cert.KernelIdeal.Gen

variable {F : FTy → Type} [FloatOps F]

/-- Each row's minimum, at most zero. -/
def qLo (v : FVec F S32x128 .f32) : FVec F S32x1 .f32 :=
  minimumf (broadcast S32x1 (Scalar.ofBits .f32 0x00000000#32))
    (shapeCast S32x1 (multiReduction .minimumf [1] S32 v 0x7F800000#32 reduces_S32x128_S32 (.inl rfl) rfl) shapeCasts_S32_S32x1)

/-- Each row's maximum, at least zero. -/
def qHi (v : FVec F S32x128 .f32) : FVec F S32x1 .f32 :=
  maximumf (broadcast S32x1 (Scalar.ofBits .f32 0x00000000#32))
    (shapeCast S32x1 (multiReduction .maximumf [1] S32 v 0xFF800000#32 reduces_S32x128_S32 (.inl rfl) rfl) shapeCasts_S32_S32x1)

/-- Each row's scale. -/
def qS (v : FVec F S32x128 .f32) : FVec F S32x1 .f32 :=
  select (cmpf .oeq (qHi v) (qLo v)) (broadcast S32x1 (Scalar.ofBits .f32 0x3F800000#32))
    (divf (subf (qHi v) (qLo v)) (broadcast S32x1 (Scalar.ofBits .f32 0x41700000#32)))

/-- The scale's reciprocal. -/
def qR (v : FVec F S32x128 .f32) : FVec F S32x1 .f32 :=
  divf (broadcast S32x1 (Scalar.ofBits .f32 0x3F800000#32)) (qS v)

/-- Each row's zero point. -/
def qZ (v : FVec F S32x128 .f32) : FVec F S32x1 .f32 :=
  roundeven (mulf (subf (broadcast S32x1 (Scalar.ofBits .f32 0x00000000#32)) (qLo v)) (qR v))

/-- The codes, biased by the rounding constant. -/
def qC (v : FVec F S32x128 .f32) : FVec F S32x128 .f32 :=
  minimumf
    (maximumf
      (addf
        (addf (roundeven (mulf v (broadcastTo S32x128 (qR v) broadcasts_S32x1_S32x128)))
          (broadcast S32x128 (Scalar.ofBits .f32 0x4B400000#32)))
        (broadcastTo S32x128 (qZ v) broadcasts_S32x1_S32x128))
      (broadcast S32x128 (Scalar.ofBits .f32 0x4B400000#32)))
    (broadcast S32x128 (Scalar.ofBits .f32 0x4B40000F#32))

/-- The values the codes stand for. -/
def qA (v : FVec F S32x128 .f32) : FVec F S32x128 .bf16 :=
  mulf
    (truncf .bf16
      (subf (qC v)
        (broadcastTo S32x128 (addf (broadcast S32x1 (Scalar.ofBits .f32 0x4B400000#32)) (qZ v)) broadcasts_S32x1_S32x128))
      bitsLt_bf16_f32)
    (broadcastTo S32x128 (truncf .bf16 (qS v) bitsLt_bf16_f32) broadcasts_S32x1_S32x128)

/-- The codes as bytes. -/
def qB8 (v : FVec F S32x128 .f32) : IVec S32x128 8 :=
  trunci 8 (andi (fptosi 32 (subf (qC v) (broadcast S32x128 (Scalar.ofBits .f32 0x4B400000#32)))) (broadcast S32x128 15#32)) natLt_8_32

/-- The codes as bytes, four rows to a word. -/
def qB (v : FVec F S32x128 .f32) : IVec S8x128 32 := bitcast S8x128 32 (qB8 v) bitcasts_S32x128_w8_S8x128_w32

/-- The lane numbers. -/
def lane8 : IVec S8x128 32 := iota .tc S8x128 32 [1] iota_S8x128_d1_w32

/-- Neighbouring lanes of each group joined, the two groups' bytes in the even and odd lanes. -/
def pkPairs (b0 b1 : IVec S8x128 32) : IVec S8x128 32 :=
  select (cmpi .eq (andi lane8 (broadcast S8x128 1#32)) (broadcast S8x128 0#32))
    (ori b0 (shli (dynamicRotate 1 127#32 none b0 rotates_S8x128_d1) (broadcast S8x128 4#32)))
    (ori (dynamicRotate 1 1#32 none b1 rotates_S8x128_d1) (shli b1 (broadcast S8x128 4#32)))

/-- The lane each lane of the packed block is taken from. -/
def pkLanes0 : IVec S8x128 32 :=
  select (cmpi .slt lane8 (broadcast S8x128 64#32)) (muli (broadcast S8x128 2#32) lane8)
    (subi (muli (broadcast S8x128 2#32) lane8) (broadcast S8x128 127#32))

def pkLanes : IVec S8x128 32 :=
  shapeCast S8x128
    (shapeCast S8x128x1
      (select (cmpi .slt pkLanes0 (broadcast S8x128 0#32)) (addi pkLanes0 (broadcast S8x128 128#32)) pkLanes0)
      shapeCasts_S8x128_S8x128x1)
    shapeCasts_S8x128x1_S8x128

/-- Two groups' codes packed two to a byte. -/
def pk (b0 b1 : IVec S8x128 32) : IVec S32x128 8 :=
  bitcast S32x128 8 (dynamicGather 1 (pkPairs b0 b1) pkLanes) bitcasts_S8x128_w32_S32x128_w8

end Cert.KernelIdeal.Val

end
-- ==== Proof.Value.Trips1.lean ====
/- What one trip of the loop over the activations' rows stores: the pieces, in terms of the steps of the quantiser. -/
module

public import proofs.«01_k».proof.Proof.Value.Ops
public import proofs.«01_k».proof.Proof.Gen.KernelIdeal.Loops

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

variable {F : FTy → Type} [FloatOps F]

/-- A column of values put into one lane of a block. -/
def put (lane : IVec S32x128 32) (acc : FVec F S32x128 .f32) (g : BitVec 32) (col : FVec F S32x1 .f32) : FVec F S32x128 .f32 :=
  select (cmpi .eq lane (broadcast S32x128 g))
    (broadcastTo S32x128 (shapeCast S32x1 col shapeCasts_S32x1_S32x1) broadcasts_S32x1_S32x128) acc

/-- The first `n` groups' columns, each in its own lane, over zeros. -/
def putAll (lane : IVec S32x128 32) (col : ℕ → FVec F S32x1 .f32) : ℕ → FVec F S32x128 .f32
  | 0 => broadcast S32x128 (Scalar.ofBits .f32 0x00000000#32)
  | n + 1 => put lane (putAll lane col n) (BitVec.ofNat 32 n) (col n)

/-- The group of 128 lanes of 32 rows a trip reads. -/
def ldX (arg1 : Memref sig .tc .vmem S768x2048 .bf16) (X : BufTy.Contents (Elt F) arg1.view.ty) (i : grid0.Coords)
    (h : k0_cond1 i = 1#1) (k : Fin k0_t1_loop.trips) : ℕ → FVec F S32x128 .f32
  | 0 => extf .f32 (shapeCast S32x128 (View.readAt (Elt F) arg1.view (Rect.unit (s := S768x2048) (k0_off1 k) S32x128.size (k0_off1_inb i k h)).toLoadRect X) shapeCasts_S32x128_S32x128) bitsLt_bf16_f32
  | 1 => extf .f32 (shapeCast S32x128 (View.readAt (Elt F) arg1.view (Rect.unit (s := S768x2048) (k0_off2 k) S32x128.size (k0_off2_inb i k h)).toLoadRect X) shapeCasts_S32x128_S32x128) bitsLt_bf16_f32
  | 2 => extf .f32 (shapeCast S32x128 (View.readAt (Elt F) arg1.view (Rect.unit (s := S768x2048) (k0_off4 k) S32x128.size (k0_off4_inb i k h)).toLoadRect X) shapeCasts_S32x128_S32x128) bitsLt_bf16_f32
  | 3 => extf .f32 (shapeCast S32x128 (View.readAt (Elt F) arg1.view (Rect.unit (s := S768x2048) (k0_off5 k) S32x128.size (k0_off5_inb i k h)).toLoadRect X) shapeCasts_S32x128_S32x128) bitsLt_bf16_f32
  | 4 => extf .f32 (shapeCast S32x128 (View.readAt (Elt F) arg1.view (Rect.unit (s := S768x2048) (k0_off7 k) S32x128.size (k0_off7_inb i k h)).toLoadRect X) shapeCasts_S32x128_S32x128) bitsLt_bf16_f32
  | 5 => extf .f32 (shapeCast S32x128 (View.readAt (Elt F) arg1.view (Rect.unit (s := S768x2048) (k0_off8 k) S32x128.size (k0_off8_inb i k h)).toLoadRect X) shapeCasts_S32x128_S32x128) bitsLt_bf16_f32
  | 6 => extf .f32 (shapeCast S32x128 (View.readAt (Elt F) arg1.view (Rect.unit (s := S768x2048) (k0_off10 k) S32x128.size (k0_off10_inb i k h)).toLoadRect X) shapeCasts_S32x128_S32x128) bitsLt_bf16_f32
  | 7 => extf .f32 (shapeCast S32x128 (View.readAt (Elt F) arg1.view (Rect.unit (s := S768x2048) (k0_off11 k) S32x128.size (k0_off11_inb i k h)).toLoadRect X) shapeCasts_S32x128_S32x128) bitsLt_bf16_f32
  | 8 => extf .f32 (shapeCast S32x128 (View.readAt (Elt F) arg1.view (Rect.unit (s := S768x2048) (k0_off13 k) S32x128.size (k0_off13_inb i k h)).toLoadRect X) shapeCasts_S32x128_S32x128) bitsLt_bf16_f32
  | 9 => extf .f32 (shapeCast S32x128 (View.readAt (Elt F) arg1.view (Rect.unit (s := S768x2048) (k0_off14 k) S32x128.size (k0_off14_inb i k h)).toLoadRect X) shapeCasts_S32x128_S32x128) bitsLt_bf16_f32
  | 10 => extf .f32 (shapeCast S32x128 (View.readAt (Elt F) arg1.view (Rect.unit (s := S768x2048) (k0_off16 k) S32x128.size (k0_off16_inb i k h)).toLoadRect X) shapeCasts_S32x128_S32x128) bitsLt_bf16_f32
  | 11 => extf .f32 (shapeCast S32x128 (View.readAt (Elt F) arg1.view (Rect.unit (s := S768x2048) (k0_off17 k) S32x128.size (k0_off17_inb i k h)).toLoadRect X) shapeCasts_S32x128_S32x128) bitsLt_bf16_f32
  | 12 => extf .f32 (shapeCast S32x128 (View.readAt (Elt F) arg1.view (Rect.unit (s := S768x2048) (k0_off19 k) S32x128.size (k0_off19_inb i k h)).toLoadRect X) shapeCasts_S32x128_S32x128) bitsLt_bf16_f32
  | 13 => extf .f32 (shapeCast S32x128 (View.readAt (Elt F) arg1.view (Rect.unit (s := S768x2048) (k0_off20 k) S32x128.size (k0_off20_inb i k h)).toLoadRect X) shapeCasts_S32x128_S32x128) bitsLt_bf16_f32
  | 14 => extf .f32 (shapeCast S32x128 (View.readAt (Elt F) arg1.view (Rect.unit (s := S768x2048) (k0_off22 k) S32x128.size (k0_off22_inb i k h)).toLoadRect X) shapeCasts_S32x128_S32x128) bitsLt_bf16_f32
  | 15 => extf .f32 (shapeCast S32x128 (View.readAt (Elt F) arg1.view (Rect.unit (s := S768x2048) (k0_off23 k) S32x128.size (k0_off23_inb i k h)).toLoadRect X) shapeCasts_S32x128_S32x128) bitsLt_bf16_f32
  | _ => broadcast S32x128 (Scalar.ofBits .f32 0x00000000#32)

/-- The trip's pieces. -/
theorem trip1_arg5 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 k).1 = ([
      ⟨Rect.unit (s := S768x1024) (k0_off24 k) S32x128.size (k0_off24_inb i k k0_h1), pk (qB (ldX arg1 X_arg1 i k0_h1 k 14)) (qB (ldX arg1 X_arg1 i k0_h1 k 15))⟩,
      ⟨Rect.unit (s := S768x1024) (k0_off21 k) S32x128.size (k0_off21_inb i k k0_h1), pk (qB (ldX arg1 X_arg1 i k0_h1 k 12)) (qB (ldX arg1 X_arg1 i k0_h1 k 13))⟩,
      ⟨Rect.unit (s := S768x1024) (k0_off18 k) S32x128.size (k0_off18_inb i k k0_h1), pk (qB (ldX arg1 X_arg1 i k0_h1 k 10)) (qB (ldX arg1 X_arg1 i k0_h1 k 11))⟩,
      ⟨Rect.unit (s := S768x1024) (k0_off15 k) S32x128.size (k0_off15_inb i k k0_h1), pk (qB (ldX arg1 X_arg1 i k0_h1 k 8)) (qB (ldX arg1 X_arg1 i k0_h1 k 9))⟩,
      ⟨Rect.unit (s := S768x1024) (k0_off12 k) S32x128.size (k0_off12_inb i k k0_h1), pk (qB (ldX arg1 X_arg1 i k0_h1 k 6)) (qB (ldX arg1 X_arg1 i k0_h1 k 7))⟩,
      ⟨Rect.unit (s := S768x1024) (k0_off9 k) S32x128.size (k0_off9_inb i k k0_h1), pk (qB (ldX arg1 X_arg1 i k0_h1 k 4)) (qB (ldX arg1 X_arg1 i k0_h1 k 5))⟩,
      ⟨Rect.unit (s := S768x1024) (k0_off6 k) S32x128.size (k0_off6_inb i k k0_h1), pk (qB (ldX arg1 X_arg1 i k0_h1 k 2)) (qB (ldX arg1 X_arg1 i k0_h1 k 3))⟩,
      ⟨Rect.unit (s := S768x1024) (k0_off3 k) S32x128.size (k0_off3_inb i k k0_h1), pk (qB (ldX arg1 X_arg1 i k0_h1 k 0)) (qB (ldX arg1 X_arg1 i k0_h1 k 1))⟩] : List (View.Piece (Elt F) S768x1024 .i8)) := by
  unfold tripL_k0_t1 trip_k0_t1
  rfl

theorem trip1_arg6 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 k).2.1 = ([
      ⟨Rect.unit (s := S768x16) (k0_off25 k) S32x16.size (k0_off25_inb i k k0_h1), extractStridedSlice S32x16 ![0, 0] (putAll v786 (fun g => qS (ldX arg1 X_arg1 i k0_h1 k g)) 16) slices_S32x128_o0_0_S32x16⟩] : List (View.Piece (Elt F) S768x16 .f32)) := by
  unfold tripL_k0_t1 trip_k0_t1
  rfl

theorem trip1_arg7 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 k).2.2.1 = ([
      ⟨Rect.unit (s := S768x16) (k0_off25 k) S32x16.size (k0_off25_inb i k k0_h1), trunci 8 (fptosi 32 (extractStridedSlice S32x16 ![0, 0] (putAll v786 (fun g => qZ (ldX arg1 X_arg1 i k0_h1 k g)) 16) slices_S32x128_o0_0_S32x16)) natLt_8_32⟩] : List (View.Piece (Elt F) S768x16 .i8)) := by
  unfold tripL_k0_t1 trip_k0_t1
  rfl

theorem trip1_arg11 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 k).2.2.2 = ([
      ⟨Rect.unit (s := S768x2048) (k0_off23 k) S32x128.size (k0_off23_inb i k k0_h1), shapeCast S32x128 (qA (ldX arg1 X_arg1 i k0_h1 k 15)) shapeCasts_S32x128_S32x128⟩,
      ⟨Rect.unit (s := S768x2048) (k0_off22 k) S32x128.size (k0_off22_inb i k k0_h1), shapeCast S32x128 (qA (ldX arg1 X_arg1 i k0_h1 k 14)) shapeCasts_S32x128_S32x128⟩,
      ⟨Rect.unit (s := S768x2048) (k0_off20 k) S32x128.size (k0_off20_inb i k k0_h1), shapeCast S32x128 (qA (ldX arg1 X_arg1 i k0_h1 k 13)) shapeCasts_S32x128_S32x128⟩,
      ⟨Rect.unit (s := S768x2048) (k0_off19 k) S32x128.size (k0_off19_inb i k k0_h1), shapeCast S32x128 (qA (ldX arg1 X_arg1 i k0_h1 k 12)) shapeCasts_S32x128_S32x128⟩,
      ⟨Rect.unit (s := S768x2048) (k0_off17 k) S32x128.size (k0_off17_inb i k k0_h1), shapeCast S32x128 (qA (ldX arg1 X_arg1 i k0_h1 k 11)) shapeCasts_S32x128_S32x128⟩,
      ⟨Rect.unit (s := S768x2048) (k0_off16 k) S32x128.size (k0_off16_inb i k k0_h1), shapeCast S32x128 (qA (ldX arg1 X_arg1 i k0_h1 k 10)) shapeCasts_S32x128_S32x128⟩,
      ⟨Rect.unit (s := S768x2048) (k0_off14 k) S32x128.size (k0_off14_inb i k k0_h1), shapeCast S32x128 (qA (ldX arg1 X_arg1 i k0_h1 k 9)) shapeCasts_S32x128_S32x128⟩,
      ⟨Rect.unit (s := S768x2048) (k0_off13 k) S32x128.size (k0_off13_inb i k k0_h1), shapeCast S32x128 (qA (ldX arg1 X_arg1 i k0_h1 k 8)) shapeCasts_S32x128_S32x128⟩,
      ⟨Rect.unit (s := S768x2048) (k0_off11 k) S32x128.size (k0_off11_inb i k k0_h1), shapeCast S32x128 (qA (ldX arg1 X_arg1 i k0_h1 k 7)) shapeCasts_S32x128_S32x128⟩,
      ⟨Rect.unit (s := S768x2048) (k0_off10 k) S32x128.size (k0_off10_inb i k k0_h1), shapeCast S32x128 (qA (ldX arg1 X_arg1 i k0_h1 k 6)) shapeCasts_S32x128_S32x128⟩,
      ⟨Rect.unit (s := S768x2048) (k0_off8 k) S32x128.size (k0_off8_inb i k k0_h1), shapeCast S32x128 (qA (ldX arg1 X_arg1 i k0_h1 k 5)) shapeCasts_S32x128_S32x128⟩,
      ⟨Rect.unit (s := S768x2048) (k0_off7 k) S32x128.size (k0_off7_inb i k k0_h1), shapeCast S32x128 (qA (ldX arg1 X_arg1 i k0_h1 k 4)) shapeCasts_S32x128_S32x128⟩,
      ⟨Rect.unit (s := S768x2048) (k0_off5 k) S32x128.size (k0_off5_inb i k k0_h1), shapeCast S32x128 (qA (ldX arg1 X_arg1 i k0_h1 k 3)) shapeCasts_S32x128_S32x128⟩,
      ⟨Rect.unit (s := S768x2048) (k0_off4 k) S32x128.size (k0_off4_inb i k k0_h1), shapeCast S32x128 (qA (ldX arg1 X_arg1 i k0_h1 k 2)) shapeCasts_S32x128_S32x128⟩,
      ⟨Rect.unit (s := S768x2048) (k0_off2 k) S32x128.size (k0_off2_inb i k k0_h1), shapeCast S32x128 (qA (ldX arg1 X_arg1 i k0_h1 k 1)) shapeCasts_S32x128_S32x128⟩,
      ⟨Rect.unit (s := S768x2048) (k0_off1 k) S32x128.size (k0_off1_inb i k k0_h1), shapeCast S32x128 (qA (ldX arg1 X_arg1 i k0_h1 k 0)) shapeCasts_S32x128_S32x128⟩] : List (View.Piece (Elt F) S768x2048 .bf16)) := by
  unfold tripL_k0_t1 trip_k0_t1
  rfl

end Cert.KernelIdeal.Val

end
-- ==== Proof.Value.Trips2.lean ====
/- What one trip of the loop over a tile's rows stores: the pieces, in terms of the steps of the quantiser. -/
module

public import proofs.«01_k».proof.Proof.Value.Trips1

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

variable {F : FTy → Type} [FloatOps F]

/-- The gated product of two blocks, rounded. -/
def gate (t0 t1 : FVec F S32x128 .f32) : FVec F S32x128 .bf16 :=
  truncf .bf16
    (mulf
      (divf t0
        (addf (broadcast S32x128 (Scalar.ofBits .f32 0x3F800000#32))
          (exp (subf (broadcast S32x128 (Scalar.ofBits .f32 0x00000000#32)) t0))))
      t1)
    bitsLt_bf16_f32

/-- A column of values put into one lane of a block of 44 lanes. -/
def put44 (lane : IVec S32x44 32) (acc : FVec F S32x44 .f32) (g : BitVec 32) (col : FVec F S32x1 .f32) : FVec F S32x44 .f32 :=
  select (cmpi .eq lane (broadcast S32x44 g))
    (broadcastTo S32x44 (shapeCast S32x1 col shapeCasts_S32x1_S32x1) broadcasts_S32x1_S32x44) acc

/-- The gated products a trip computes: those of the tile's first 128 columns. -/
def gt0 (arg13 : Memref sig .tc .vmem S2x768x256 .f32) (X : BufTy.Contents (Elt F) arg13.view.ty) (k : Fin k0_t2_loop.trips) :
    FVec F S32x128 .bf16 :=
  gate
    (shapeCast S32x128 (View.readAt (Elt F) arg13.view (Rect.unit (s := S2x768x256) (k0_off27 k) S1x32x128.size (k0_off27_inb k)).toLoadRect X) shapeCasts_S1x32x128_S32x128)
    (shapeCast S32x128 (View.readAt (Elt F) arg13.view (Rect.unit (s := S2x768x256) (k0_off28 k) S1x32x128.size (k0_off28_inb k)).toLoadRect X) shapeCasts_S1x32x128_S32x128)

/-- Those of the tile's last 128 columns. -/
def gt1 (arg13 : Memref sig .tc .vmem S2x768x256 .f32) (X : BufTy.Contents (Elt F) arg13.view.ty) (k : Fin k0_t2_loop.trips) :
    FVec F S32x128 .bf16 :=
  gate
    (shapeCast S32x128 (View.readAt (Elt F) arg13.view (Rect.unit (s := S2x768x256) (k0_off30 k) S1x32x128.size (k0_off30_inb k)).toLoadRect X) shapeCasts_S1x32x128_S32x128)
    (shapeCast S32x128 (View.readAt (Elt F) arg13.view (Rect.unit (s := S2x768x256) (k0_off31 k) S1x32x128.size (k0_off31_inb k)).toLoadRect X) shapeCasts_S1x32x128_S32x128)

/-- A block of rounded values, widened. -/
def wide (v : FVec F S32x128 .bf16) : FVec F S32x128 .f32 := extf .f32 v bitsLt_bf16_f32

theorem trip2_arg4 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (k : Fin k0_t2_loop.trips) (f_arg4 : BufTy.Contents (Elt F) arg4.view.ty) (f_arg8 : BufTy.Contents (Elt F) arg8.view.ty) (f_arg9 : BufTy.Contents (Elt F) arg9.view.ty) (f_arg10 : BufTy.Contents (Elt F) arg10.view.ty) :
    (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 k f_arg4 f_arg8 f_arg9 f_arg10).1 = ([
      ⟨Rect.unit (s := S768x256) (k0_off32 k) S32x128.size (k0_off32_inb k), gt1 arg13 X_arg13 k⟩,
      ⟨Rect.unit (s := S768x256) (k0_off29 k) S32x128.size (k0_off29_inb k), gt0 arg13 X_arg13 k⟩] : List (View.Piece (Elt F) S768x256 .bf16)) := by
  unfold tripL_k0_t2 trip_k0_t2
  rfl

theorem trip2_arg8 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (k : Fin k0_t2_loop.trips) (f_arg4 : BufTy.Contents (Elt F) arg4.view.ty) (f_arg8 : BufTy.Contents (Elt F) arg8.view.ty) (f_arg9 : BufTy.Contents (Elt F) arg9.view.ty) (f_arg10 : BufTy.Contents (Elt F) arg10.view.ty) :
    (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 k f_arg4 f_arg8 f_arg9 f_arg10).2.1 = ([
      ⟨Rect.unit (s := S768x128) (k0_off33 k) S32x128.size (k0_off33_inb k), pk (qB (wide (gt0 arg13 X_arg13 k))) (qB (wide (gt1 arg13 X_arg13 k)))⟩] : List (View.Piece (Elt F) S768x128 .i8)) := by
  unfold tripL_k0_t2 trip_k0_t2
  rfl

theorem trip2_arg9 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (k : Fin k0_t2_loop.trips) (f_arg4 : BufTy.Contents (Elt F) arg4.view.ty) (f_arg8 : BufTy.Contents (Elt F) arg8.view.ty) (f_arg9 : BufTy.Contents (Elt F) arg9.view.ty) (f_arg10 : BufTy.Contents (Elt F) arg10.view.ty) :
    (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 k f_arg4 f_arg8 f_arg9 f_arg10).2.2.1 = ([
      ⟨Rect.unit (s := S768x44) (k0_off26 k) S32x44.size (k0_off26_inb k), put44 v784 (put44 v784 (shapeCast S32x44 (View.readAt (Elt F) arg9.view (Rect.unit (s := S768x44) (k0_off26 k) S32x44.size (k0_off26_inb k)).toLoadRect f_arg9) shapeCasts_S32x44_S32x44) (Scalar.addi (Scalar.muli 2#32 arg0) 0#32) (qS (wide (gt0 arg13 X_arg13 k)))) (Scalar.addi (Scalar.muli 2#32 arg0) 1#32) (qS (wide (gt1 arg13 X_arg13 k)))⟩] : List (View.Piece (Elt F) S768x44 .f32)) := by
  unfold tripL_k0_t2 trip_k0_t2
  rfl

theorem trip2_arg10 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (k : Fin k0_t2_loop.trips) (f_arg4 : BufTy.Contents (Elt F) arg4.view.ty) (f_arg8 : BufTy.Contents (Elt F) arg8.view.ty) (f_arg9 : BufTy.Contents (Elt F) arg9.view.ty) (f_arg10 : BufTy.Contents (Elt F) arg10.view.ty) :
    (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 k f_arg4 f_arg8 f_arg9 f_arg10).2.2.2 = ([
      ⟨Rect.unit (s := S768x44) (k0_off26 k) S32x44.size (k0_off26_inb k), trunci 8 (fptosi 32 (put44 v784 (put44 v784 (sitofp .f32 (extui 32 (shapeCast S32x44 (View.readAt (Elt F) arg10.view (Rect.unit (s := S768x44) (k0_off26 k) S32x44.size (k0_off26_inb k)).toLoadRect f_arg10) shapeCasts_S32x44_S32x44) natLt_8_32)) (Scalar.addi (Scalar.muli 2#32 arg0) 0#32) (qZ (wide (gt0 arg13 X_arg13 k)))) (Scalar.addi (Scalar.muli 2#32 arg0) 1#32) (qZ (wide (gt1 arg13 X_arg13 k))))) natLt_8_32⟩] : List (View.Piece (Elt F) S768x44 .i8)) := by
  unfold tripL_k0_t2 trip_k0_t2
  rfl

end Cert.KernelIdeal.Val

end
-- ==== Proof.Value.Loop1.lean ====
/- What the loop over the activations' rows leaves in the buffers it stores into, at every element. -/
module

public import proofs.«01_k».proof.Proof.Value.Trips2

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

variable {F : FTy → Type} [FloatOps F]

/-- The block of 32 rows a row lies in, and its place there. -/
def rb (r : Fin 768) : Fin 24 := ⟨r.val / 32, by omega⟩
def rl (r : Fin 768) : Fin 32 := ⟨r.val % 32, by omega⟩

theorem rb_of {r : Fin 768} {k : Fin 24} {x : ℕ} (hx : x < 32) (h : r.val = 32 * k.val + x) : rb r = k := Fin.ext (by unfold rb; dsimp only; omega)
theorem rl_of {r : Fin 768} {k : ℕ} {x : Fin 32} (h : r.val = 32 * k + x.val) : rl r = x := Fin.ext (by unfold rl; dsimp only; omega)

/-- The group of 128 lanes a column lies in, and its place there. -/
def cg {n : ℕ} (c : Fin (n * 128)) : Fin n := ⟨c.val / 128, by omega⟩
def cl {n : ℕ} (c : Fin (n * 128)) : Fin 128 := ⟨c.val % 128, by omega⟩

theorem cg_of {n : ℕ} {c : Fin (n * 128)} {g : Fin n} {x : ℕ} (hx : x < 128) (h : c.val = 128 * g.val + x) : cg c = g :=
  Fin.ext (by unfold cg; dsimp only; omega)
theorem cl_of {n : ℕ} {c : Fin (n * 128)} {g : ℕ} {x : Fin 128} (h : c.val = 128 * g + x.val) : cl c = x :=
  Fin.ext (by unfold cl; dsimp only; omega)

/-- One group of 32 rows of the activations, widened. -/
def blkX (X : Vec F S768x2048 .bf16) (k : Fin 24) (g : Fin 16) : FVec F S32x128 .f32 :=
  extf .f32 (fun y => X (ix2 ⟨32 * k.val + (y 0).val, by have := (y 0).isLt; have : (y 0).val < 32 := this; omega⟩
    ⟨128 * g.val + (y 1).val, by have := (y 1).isLt; have : (y 1).val < 128 := this; omega⟩) : FVec F S32x128 .bf16) bitsLt_bf16_f32

/-- The quantised activations' values. -/
def aT (X : Vec F S768x2048 .bf16) : Vec F S768x2048 .bf16 := fun y => qA (blkX X (rb (y 0)) (cg (n := 16) (y 1))) (ix2 (rl (y 0)) (cl (n := 16) (y 1)))

/-- The two groups of a pair. -/
def ev (g : Fin 8) : Fin 16 := ⟨2 * g.val, by omega⟩
def od (g : Fin 8) : Fin 16 := ⟨2 * g.val + 1, by omega⟩

/-- The activations' codes, two to a byte. -/
def acT (X : Vec F S768x2048 .bf16) : Vec F S768x1024 .i8 := fun y =>
  pk (qB (blkX X (rb (y 0)) (ev (cg (n := 8) (y 1))))) (qB (blkX X (rb (y 0)) (od (cg (n := 8) (y 1)))))
    (ix2 (rl (y 0)) (cl (n := 8) (y 1)))

/-- The activations' scales. -/
def asT (X : Vec F S768x2048 .bf16) : Vec F S768x16 .f32 := fun y => qS (blkX X (rb (y 0)) (y 1)) (ix2 (rl (y 0)) 0)

/-- The activations' zero points. -/
def azT (X : Vec F S768x2048 .bf16) : Vec F S768x16 .i8 := fun y =>
  trunci 8 (fptosi 32 (qZ (blkX X (rb (y 0)) (y 1)))) natLt_8_32 (ix2 (rl (y 0)) 0)

theorem sel_eq {α : Type} {w : ℕ} (a b : BitVec w) (x y : α) : Scalar.select (IntOp.cmpi .eq a b) x y = if a = b then x else y := by
  by_cases h : a = b
  · subst h; simp [IntOp.cmpi, Scalar.select]
  · have e : (a == b) = false := by simpa using h
    simp [IntOp.cmpi, Scalar.select, h, e]

theorem put_at (lane : IVec S32x128 32) (acc : FVec F S32x128 .f32) (g : BitVec 32) (col : FVec F S32x1 .f32) (r : Fin 32) (c : Fin 128) :
    put lane acc g col (ix2 r c) = if lane (ix2 r c) = g then col (ix2 r 0) else acc (ix2 r c) := by
  pointwise [put]
  exact sel_eq _ _ _ _

theorem lane_at (r : Fin 32) (c : Fin 128) : iota .tc S32x128 32 [1] iota_S32x128_d1_w32 (ix2 r c) = BitVec.ofNat 32 c.val := by
  pointwise

theorem ofNat32_inj {a b : ℕ} (ha : a < 4294967296) (hb : b < 4294967296) : BitVec.ofNat 32 a = BitVec.ofNat 32 b ↔ a = b := by
  constructor
  · intro h
    have := congrArg BitVec.toNat h
    simp only [BitVec.toNat_ofNat] at this
    omega
  · rintro rfl; rfl

theorem putAll_at (col : ℕ → FVec F S32x1 .f32) (r : Fin 32) (c : Fin 128) :
    ∀ n : ℕ, n ≤ 128 → c.val < n → putAll (iota .tc S32x128 32 [1] iota_S32x128_d1_w32) col n (ix2 r c) = col c.val (ix2 r 0)
  | 0, _, h => absurd h (Nat.not_lt_zero _)
  | n + 1, hn, h => by
    rw [putAll, put_at, lane_at]
    by_cases e : c.val = n
    · subst e; rw [if_pos rfl]
    · rw [if_neg (fun h' => e ((ofNat32_inj (by omega) (by omega)).mp h')), putAll_at col r c n (by omega) (by omega)]

theorem t1_trips : k0_t1_loop.trips = 24 := by decide +kernel
theorem t2_trips : k0_t2_loop.trips = 24 := by decide +kernel

/-- A trip's loads read a group of the activations. -/
theorem ld_eq (arg1 : Memref sig .tc .vmem S768x2048 .bf16) (X : BufTy.Contents (Elt F) arg1.view.ty) (k : Fin 24) (g : Fin 16)
    {off : Fin 2 → ℕ} (hoff : off = ![32 * k.val, 128 * g.val]) (inb : ∀ a, off a + S32x128.size a ≤ S768x2048.size a) :
    extf .f32 (shapeCast S32x128 (View.readAt (Elt F) arg1.view (Rect.unit (s := S768x2048) off S32x128.size inb).toLoadRect X) shapeCasts_S32x128_S32x128)
      bitsLt_bf16_f32 = blkX (arg1.view.read (Elt F) X) k g := by
  subst hoff
  unfold blkX
  refine congrArg (fun v => extf .f32 v bitsLt_bf16_f32) ?_
  refine (shapeCast_self _ _).trans ?_
  funext y
  refine congrArg (arg1.view.read (Elt F) X) (funext fun a => Fin.ext ?_)
  fin_cases a
  · show 32 * k.val + 1 * (y 0).val = 32 * k.val + (y 0).val; omega
  · show 128 * g.val + 1 * (y 1).val = 128 * g.val + (y 1).val; omega

theorem ldX_eq (arg1 : Memref sig .tc .vmem S768x2048 .bf16) (X : BufTy.Contents (Elt F) arg1.view.ty) (i : grid0.Coords)
    (h : k0_cond1 i = 1#1) (k : Fin k0_t1_loop.trips) (g : Fin 16) :
    ldX arg1 X i h k g.val = blkX (arg1.view.read (Elt F) X) ⟨k.val, lt_of_lt_of_eq k.isLt t1_trips⟩ g := by
  fin_cases g
  · exact ld_eq arg1 X _ ⟨0, by decide⟩ (k0_off1_eq k) _
  · exact ld_eq arg1 X _ ⟨1, by decide⟩ (k0_off2_eq k) _
  · exact ld_eq arg1 X _ ⟨2, by decide⟩ (k0_off4_eq k) _
  · exact ld_eq arg1 X _ ⟨3, by decide⟩ (k0_off5_eq k) _
  · exact ld_eq arg1 X _ ⟨4, by decide⟩ (k0_off7_eq k) _
  · exact ld_eq arg1 X _ ⟨5, by decide⟩ (k0_off8_eq k) _
  · exact ld_eq arg1 X _ ⟨6, by decide⟩ (k0_off10_eq k) _
  · exact ld_eq arg1 X _ ⟨7, by decide⟩ (k0_off11_eq k) _
  · exact ld_eq arg1 X _ ⟨8, by decide⟩ (k0_off13_eq k) _
  · exact ld_eq arg1 X _ ⟨9, by decide⟩ (k0_off14_eq k) _
  · exact ld_eq arg1 X _ ⟨10, by decide⟩ (k0_off16_eq k) _
  · exact ld_eq arg1 X _ ⟨11, by decide⟩ (k0_off17_eq k) _
  · exact ld_eq arg1 X _ ⟨12, by decide⟩ (k0_off19_eq k) _
  · exact ld_eq arg1 X _ ⟨13, by decide⟩ (k0_off20_eq k) _
  · exact ld_eq arg1 X _ ⟨14, by decide⟩ (k0_off22_eq k) _
  · exact ld_eq arg1 X _ ⟨15, by decide⟩ (k0_off23_eq k) _

/-- Where a piece of two axes lies. -/
theorem emb0 {d₀ d₁ n₀ n₁ p q : ℕ} {off : Fin 2 → ℕ} (hoff : off = ![p, q]) (inb : ∀ a, off a + (⟨2, ![n₀, n₁]⟩ : Shape).size a ≤ (⟨2, ![d₀, d₁]⟩ : Shape).size a)
    (x : (Rect.unit (s := ⟨2, ![d₀, d₁]⟩) off (⟨2, ![n₀, n₁]⟩ : Shape).size inb).shape.Idx) :
    ((Rect.unit (s := ⟨2, ![d₀, d₁]⟩) off (⟨2, ![n₀, n₁]⟩ : Shape).size inb).emb x 0).val = p + (x 0).val := by
  subst hoff; show p + 1 * _ = _; rw [Nat.one_mul]
theorem emb1 {d₀ d₁ n₀ n₁ p q : ℕ} {off : Fin 2 → ℕ} (hoff : off = ![p, q]) (inb : ∀ a, off a + (⟨2, ![n₀, n₁]⟩ : Shape).size a ≤ (⟨2, ![d₀, d₁]⟩ : Shape).size a)
    (x : (Rect.unit (s := ⟨2, ![d₀, d₁]⟩) off (⟨2, ![n₀, n₁]⟩ : Shape).size inb).shape.Idx) :
    ((Rect.unit (s := ⟨2, ![d₀, d₁]⟩) off (⟨2, ![n₀, n₁]⟩ : Shape).size inb).emb x 1).val = q + (x 1).val := by
  subst hoff; show q + 1 * _ = _; rw [Nat.one_mul]
theorem mem2 {d₀ d₁ n₀ n₁ p q : ℕ} {off : Fin 2 → ℕ} (hoff : off = ![p, q]) (inb : ∀ a, off a + (⟨2, ![n₀, n₁]⟩ : Shape).size a ≤ (⟨2, ![d₀, d₁]⟩ : Shape).size a)
    (y : (⟨2, ![d₀, d₁]⟩ : Shape).Idx) :
    y ∈ (Rect.unit (s := ⟨2, ![d₀, d₁]⟩) off (⟨2, ![n₀, n₁]⟩ : Shape).size inb).set ↔
      (p ≤ (y 0).val ∧ (y 0).val < p + n₀) ∧ (q ≤ (y 1).val ∧ (y 1).val < q + n₁) := by
  subst hoff; rw [Rect.mem_set_unit, Fin.forall_fin_two]; rfl

theorem aT_at (X : Vec F S768x2048 .bf16) (y : S768x2048.Idx) (k : Fin 24) (g : Fin 16) (x : S32x128.Idx)
    (h0 : (y 0).val = 32 * k.val + (x 0).val) (h1 : (y 1).val = 128 * g.val + (x 1).val) : aT X y = qA (blkX X k g) x := by
  unfold aT
  rw [rb_of (k := k) (x 0).isLt h0, cg_of (n := 16) (g := g) (x 1).isLt h1, rl_of (x := x 0) h0, cl_of (n := 16) (x := x 1) h1]
  exact congrArg _ (ix2_eta x)

theorem acT_at (X : Vec F S768x2048 .bf16) (y : S768x1024.Idx) (k : Fin 24) (g : Fin 8) (x : S32x128.Idx)
    (h0 : (y 0).val = 32 * k.val + (x 0).val) (h1 : (y 1).val = 128 * g.val + (x 1).val) :
    acT X y = pk (qB (blkX X k (ev g))) (qB (blkX X k (od g))) x := by
  unfold acT
  rw [rb_of (k := k) (x 0).isLt h0, cg_of (n := 8) (g := g) (x 1).isLt h1, rl_of (x := x 0) h0, cl_of (n := 8) (x := x 1) h1]
  exact congrArg _ (ix2_eta x)

theorem asT_at (X : Vec F S768x2048 .bf16) (y : S768x16.Idx) (k : Fin 24) (g : Fin 16) (r : Fin 32)
    (h0 : (y 0).val = 32 * k.val + r.val) (h1 : (y 1).val = g.val) : asT X y = qS (blkX X k g) (ix2 r 0) := by
  have hg : y 1 = g := Fin.ext h1
  unfold asT
  rw [rb_of (k := k) r.isLt h0, rl_of (x := r) h0, hg]

theorem azT_at (X : Vec F S768x2048 .bf16) (y : S768x16.Idx) (k : Fin 24) (g : Fin 16) (r : Fin 32)
    (h0 : (y 0).val = 32 * k.val + r.val) (h1 : (y 1).val = g.val) :
    azT X y = trunci 8 (fptosi 32 (qZ (blkX X k g))) natLt_8_32 (ix2 r 0) := by
  have hg : y 1 = g := Fin.ext h1
  unfold azT
  rw [rb_of (k := k) r.isLt h0, rl_of (x := r) h0, hg]

theorem step1_11 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (f : BufTy.Contents (Elt F) arg11.view.ty) (k : Fin k0_t1_loop.trips) (y : S768x2048.Idx) :
    arg11.view.read (Elt F) (arg11.view.writes (Elt F) f (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 k).2.2.2) y =
      if (rb (y 0)).val = k.val then aT (arg1.view.read (Elt F) X_arg1) y else arg11.view.read (Elt F) f y := by
  rw [trip1_arg11]
  split
  · rename_i h
    have hk : (y 0).val / 32 = k.val := h
    refine View.read_writes_apply_of_pieces _ _ (aT (arg1.view.read (Elt F) X_arg1)) _ ?_ y ?_
    · simp only [List.forall_mem_cons]
      refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, by simp⟩
      · exact (congrFun (shapeCast_self _ _) _).trans ((congrFun (congrArg qA (ldX_eq arg1 X_arg1 i k0_h1 k ⟨15, by decide⟩)) x).trans
          (aT_at _ _ ⟨k.val, lt_of_lt_of_eq k.isLt t1_trips⟩ ⟨15, by decide⟩ x (emb0 (k0_off23_eq k) _ x) (emb1 (k0_off23_eq k) _ x)).symm)
      · exact (congrFun (shapeCast_self _ _) _).trans ((congrFun (congrArg qA (ldX_eq arg1 X_arg1 i k0_h1 k ⟨14, by decide⟩)) x).trans
          (aT_at _ _ ⟨k.val, lt_of_lt_of_eq k.isLt t1_trips⟩ ⟨14, by decide⟩ x (emb0 (k0_off22_eq k) _ x) (emb1 (k0_off22_eq k) _ x)).symm)
      · exact (congrFun (shapeCast_self _ _) _).trans ((congrFun (congrArg qA (ldX_eq arg1 X_arg1 i k0_h1 k ⟨13, by decide⟩)) x).trans
          (aT_at _ _ ⟨k.val, lt_of_lt_of_eq k.isLt t1_trips⟩ ⟨13, by decide⟩ x (emb0 (k0_off20_eq k) _ x) (emb1 (k0_off20_eq k) _ x)).symm)
      · exact (congrFun (shapeCast_self _ _) _).trans ((congrFun (congrArg qA (ldX_eq arg1 X_arg1 i k0_h1 k ⟨12, by decide⟩)) x).trans
          (aT_at _ _ ⟨k.val, lt_of_lt_of_eq k.isLt t1_trips⟩ ⟨12, by decide⟩ x (emb0 (k0_off19_eq k) _ x) (emb1 (k0_off19_eq k) _ x)).symm)
      · exact (congrFun (shapeCast_self _ _) _).trans ((congrFun (congrArg qA (ldX_eq arg1 X_arg1 i k0_h1 k ⟨11, by decide⟩)) x).trans
          (aT_at _ _ ⟨k.val, lt_of_lt_of_eq k.isLt t1_trips⟩ ⟨11, by decide⟩ x (emb0 (k0_off17_eq k) _ x) (emb1 (k0_off17_eq k) _ x)).symm)
      · exact (congrFun (shapeCast_self _ _) _).trans ((congrFun (congrArg qA (ldX_eq arg1 X_arg1 i k0_h1 k ⟨10, by decide⟩)) x).trans
          (aT_at _ _ ⟨k.val, lt_of_lt_of_eq k.isLt t1_trips⟩ ⟨10, by decide⟩ x (emb0 (k0_off16_eq k) _ x) (emb1 (k0_off16_eq k) _ x)).symm)
      · exact (congrFun (shapeCast_self _ _) _).trans ((congrFun (congrArg qA (ldX_eq arg1 X_arg1 i k0_h1 k ⟨9, by decide⟩)) x).trans
          (aT_at _ _ ⟨k.val, lt_of_lt_of_eq k.isLt t1_trips⟩ ⟨9, by decide⟩ x (emb0 (k0_off14_eq k) _ x) (emb1 (k0_off14_eq k) _ x)).symm)
      · exact (congrFun (shapeCast_self _ _) _).trans ((congrFun (congrArg qA (ldX_eq arg1 X_arg1 i k0_h1 k ⟨8, by decide⟩)) x).trans
          (aT_at _ _ ⟨k.val, lt_of_lt_of_eq k.isLt t1_trips⟩ ⟨8, by decide⟩ x (emb0 (k0_off13_eq k) _ x) (emb1 (k0_off13_eq k) _ x)).symm)
      · exact (congrFun (shapeCast_self _ _) _).trans ((congrFun (congrArg qA (ldX_eq arg1 X_arg1 i k0_h1 k ⟨7, by decide⟩)) x).trans
          (aT_at _ _ ⟨k.val, lt_of_lt_of_eq k.isLt t1_trips⟩ ⟨7, by decide⟩ x (emb0 (k0_off11_eq k) _ x) (emb1 (k0_off11_eq k) _ x)).symm)
      · exact (congrFun (shapeCast_self _ _) _).trans ((congrFun (congrArg qA (ldX_eq arg1 X_arg1 i k0_h1 k ⟨6, by decide⟩)) x).trans
          (aT_at _ _ ⟨k.val, lt_of_lt_of_eq k.isLt t1_trips⟩ ⟨6, by decide⟩ x (emb0 (k0_off10_eq k) _ x) (emb1 (k0_off10_eq k) _ x)).symm)
      · exact (congrFun (shapeCast_self _ _) _).trans ((congrFun (congrArg qA (ldX_eq arg1 X_arg1 i k0_h1 k ⟨5, by decide⟩)) x).trans
          (aT_at _ _ ⟨k.val, lt_of_lt_of_eq k.isLt t1_trips⟩ ⟨5, by decide⟩ x (emb0 (k0_off8_eq k) _ x) (emb1 (k0_off8_eq k) _ x)).symm)
      · exact (congrFun (shapeCast_self _ _) _).trans ((congrFun (congrArg qA (ldX_eq arg1 X_arg1 i k0_h1 k ⟨4, by decide⟩)) x).trans
          (aT_at _ _ ⟨k.val, lt_of_lt_of_eq k.isLt t1_trips⟩ ⟨4, by decide⟩ x (emb0 (k0_off7_eq k) _ x) (emb1 (k0_off7_eq k) _ x)).symm)
      · exact (congrFun (shapeCast_self _ _) _).trans ((congrFun (congrArg qA (ldX_eq arg1 X_arg1 i k0_h1 k ⟨3, by decide⟩)) x).trans
          (aT_at _ _ ⟨k.val, lt_of_lt_of_eq k.isLt t1_trips⟩ ⟨3, by decide⟩ x (emb0 (k0_off5_eq k) _ x) (emb1 (k0_off5_eq k) _ x)).symm)
      · exact (congrFun (shapeCast_self _ _) _).trans ((congrFun (congrArg qA (ldX_eq arg1 X_arg1 i k0_h1 k ⟨2, by decide⟩)) x).trans
          (aT_at _ _ ⟨k.val, lt_of_lt_of_eq k.isLt t1_trips⟩ ⟨2, by decide⟩ x (emb0 (k0_off4_eq k) _ x) (emb1 (k0_off4_eq k) _ x)).symm)
      · exact (congrFun (shapeCast_self _ _) _).trans ((congrFun (congrArg qA (ldX_eq arg1 X_arg1 i k0_h1 k ⟨1, by decide⟩)) x).trans
          (aT_at _ _ ⟨k.val, lt_of_lt_of_eq k.isLt t1_trips⟩ ⟨1, by decide⟩ x (emb0 (k0_off2_eq k) _ x) (emb1 (k0_off2_eq k) _ x)).symm)
      · exact (congrFun (shapeCast_self _ _) _).trans ((congrFun (congrArg qA (ldX_eq arg1 X_arg1 i k0_h1 k ⟨0, by decide⟩)) x).trans
          (aT_at _ _ ⟨k.val, lt_of_lt_of_eq k.isLt t1_trips⟩ ⟨0, by decide⟩ x (emb0 (k0_off1_eq k) _ x) (emb1 (k0_off1_eq k) _ x)).symm)
    · obtain ⟨g, hg⟩ : ∃ g : Fin 16, (y 1).val / 128 = g.val := ⟨cg (n := 16) (y 1), rfl⟩
      fin_cases g
      · have hg : (y 1).val / 128 = 0 := hg
        refine ⟨_, List.mem_of_getElem? (i := 15) rfl, ?_⟩
        exact (mem2 (k0_off1_eq k) (k0_off1_inb i k k0_h1) y).mpr (by omega)
      · have hg : (y 1).val / 128 = 1 := hg
        refine ⟨_, List.mem_of_getElem? (i := 14) rfl, ?_⟩
        exact (mem2 (k0_off2_eq k) (k0_off2_inb i k k0_h1) y).mpr (by omega)
      · have hg : (y 1).val / 128 = 2 := hg
        refine ⟨_, List.mem_of_getElem? (i := 13) rfl, ?_⟩
        exact (mem2 (k0_off4_eq k) (k0_off4_inb i k k0_h1) y).mpr (by omega)
      · have hg : (y 1).val / 128 = 3 := hg
        refine ⟨_, List.mem_of_getElem? (i := 12) rfl, ?_⟩
        exact (mem2 (k0_off5_eq k) (k0_off5_inb i k k0_h1) y).mpr (by omega)
      · have hg : (y 1).val / 128 = 4 := hg
        refine ⟨_, List.mem_of_getElem? (i := 11) rfl, ?_⟩
        exact (mem2 (k0_off7_eq k) (k0_off7_inb i k k0_h1) y).mpr (by omega)
      · have hg : (y 1).val / 128 = 5 := hg
        refine ⟨_, List.mem_of_getElem? (i := 10) rfl, ?_⟩
        exact (mem2 (k0_off8_eq k) (k0_off8_inb i k k0_h1) y).mpr (by omega)
      · have hg : (y 1).val / 128 = 6 := hg
        refine ⟨_, List.mem_of_getElem? (i := 9) rfl, ?_⟩
        exact (mem2 (k0_off10_eq k) (k0_off10_inb i k k0_h1) y).mpr (by omega)
      · have hg : (y 1).val / 128 = 7 := hg
        refine ⟨_, List.mem_of_getElem? (i := 8) rfl, ?_⟩
        exact (mem2 (k0_off11_eq k) (k0_off11_inb i k k0_h1) y).mpr (by omega)
      · have hg : (y 1).val / 128 = 8 := hg
        refine ⟨_, List.mem_of_getElem? (i := 7) rfl, ?_⟩
        exact (mem2 (k0_off13_eq k) (k0_off13_inb i k k0_h1) y).mpr (by omega)
      · have hg : (y 1).val / 128 = 9 := hg
        refine ⟨_, List.mem_of_getElem? (i := 6) rfl, ?_⟩
        exact (mem2 (k0_off14_eq k) (k0_off14_inb i k k0_h1) y).mpr (by omega)
      · have hg : (y 1).val / 128 = 10 := hg
        refine ⟨_, List.mem_of_getElem? (i := 5) rfl, ?_⟩
        exact (mem2 (k0_off16_eq k) (k0_off16_inb i k k0_h1) y).mpr (by omega)
      · have hg : (y 1).val / 128 = 11 := hg
        refine ⟨_, List.mem_of_getElem? (i := 4) rfl, ?_⟩
        exact (mem2 (k0_off17_eq k) (k0_off17_inb i k k0_h1) y).mpr (by omega)
      · have hg : (y 1).val / 128 = 12 := hg
        refine ⟨_, List.mem_of_getElem? (i := 3) rfl, ?_⟩
        exact (mem2 (k0_off19_eq k) (k0_off19_inb i k k0_h1) y).mpr (by omega)
      · have hg : (y 1).val / 128 = 13 := hg
        refine ⟨_, List.mem_of_getElem? (i := 2) rfl, ?_⟩
        exact (mem2 (k0_off20_eq k) (k0_off20_inb i k k0_h1) y).mpr (by omega)
      · have hg : (y 1).val / 128 = 14 := hg
        refine ⟨_, List.mem_of_getElem? (i := 1) rfl, ?_⟩
        exact (mem2 (k0_off22_eq k) (k0_off22_inb i k k0_h1) y).mpr (by omega)
      · have hg : (y 1).val / 128 = 15 := hg
        refine ⟨_, List.mem_of_getElem? (i := 0) rfl, ?_⟩
        exact (mem2 (k0_off23_eq k) (k0_off23_inb i k k0_h1) y).mpr (by omega)
  · rename_i h
    have hk : ¬ (y 0).val / 32 = k.val := h
    refine View.read_writes_apply_of_forall_not_mem _ _ y _ ?_
    simp only [List.forall_mem_cons]
    exact ⟨fun hm => hk (by have := (mem2 (k0_off23_eq k) (k0_off23_inb i k k0_h1) y).mp hm; omega), fun hm => hk (by have := (mem2 (k0_off22_eq k) (k0_off22_inb i k k0_h1) y).mp hm; omega), fun hm => hk (by have := (mem2 (k0_off20_eq k) (k0_off20_inb i k k0_h1) y).mp hm; omega), fun hm => hk (by have := (mem2 (k0_off19_eq k) (k0_off19_inb i k k0_h1) y).mp hm; omega), fun hm => hk (by have := (mem2 (k0_off17_eq k) (k0_off17_inb i k k0_h1) y).mp hm; omega), fun hm => hk (by have := (mem2 (k0_off16_eq k) (k0_off16_inb i k k0_h1) y).mp hm; omega), fun hm => hk (by have := (mem2 (k0_off14_eq k) (k0_off14_inb i k k0_h1) y).mp hm; omega), fun hm => hk (by have := (mem2 (k0_off13_eq k) (k0_off13_inb i k k0_h1) y).mp hm; omega), fun hm => hk (by have := (mem2 (k0_off11_eq k) (k0_off11_inb i k k0_h1) y).mp hm; omega), fun hm => hk (by have := (mem2 (k0_off10_eq k) (k0_off10_inb i k k0_h1) y).mp hm; omega), fun hm => hk (by have := (mem2 (k0_off8_eq k) (k0_off8_inb i k k0_h1) y).mp hm; omega), fun hm => hk (by have := (mem2 (k0_off7_eq k) (k0_off7_inb i k k0_h1) y).mp hm; omega), fun hm => hk (by have := (mem2 (k0_off5_eq k) (k0_off5_inb i k k0_h1) y).mp hm; omega), fun hm => hk (by have := (mem2 (k0_off4_eq k) (k0_off4_inb i k k0_h1) y).mp hm; omega), fun hm => hk (by have := (mem2 (k0_off2_eq k) (k0_off2_inb i k k0_h1) y).mp hm; omega), fun hm => hk (by have := (mem2 (k0_off1_eq k) (k0_off1_inb i k k0_h1) y).mp hm; omega), by simp⟩

theorem step1_5 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (f : BufTy.Contents (Elt F) arg5.view.ty) (k : Fin k0_t1_loop.trips) (y : S768x1024.Idx) :
    arg5.view.read (Elt F) (arg5.view.writes (Elt F) f (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 k).1) y =
      if (rb (y 0)).val = k.val then acT (arg1.view.read (Elt F) X_arg1) y else arg5.view.read (Elt F) f y := by
  rw [trip1_arg5]
  split
  · rename_i h
    have hk : (y 0).val / 32 = k.val := h
    refine View.read_writes_apply_of_pieces _ _ (acT (arg1.view.read (Elt F) X_arg1)) _ ?_ y ?_
    · simp only [List.forall_mem_cons]
      refine ⟨fun x => ?_, fun x => ?_, fun x => ?_, fun x => ?_, fun x => ?_, fun x => ?_, fun x => ?_, fun x => ?_, by simp⟩
      · exact (congrFun (congrArg₂ (fun u v => pk (qB u) (qB v)) (ldX_eq arg1 X_arg1 i k0_h1 k ⟨14, by decide⟩) (ldX_eq arg1 X_arg1 i k0_h1 k ⟨15, by decide⟩)) x).trans
          (acT_at _ _ ⟨k.val, lt_of_lt_of_eq k.isLt t1_trips⟩ ⟨7, by decide⟩ x (emb0 (k0_off24_eq k) _ x) (emb1 (k0_off24_eq k) _ x)).symm
      · exact (congrFun (congrArg₂ (fun u v => pk (qB u) (qB v)) (ldX_eq arg1 X_arg1 i k0_h1 k ⟨12, by decide⟩) (ldX_eq arg1 X_arg1 i k0_h1 k ⟨13, by decide⟩)) x).trans
          (acT_at _ _ ⟨k.val, lt_of_lt_of_eq k.isLt t1_trips⟩ ⟨6, by decide⟩ x (emb0 (k0_off21_eq k) _ x) (emb1 (k0_off21_eq k) _ x)).symm
      · exact (congrFun (congrArg₂ (fun u v => pk (qB u) (qB v)) (ldX_eq arg1 X_arg1 i k0_h1 k ⟨10, by decide⟩) (ldX_eq arg1 X_arg1 i k0_h1 k ⟨11, by decide⟩)) x).trans
          (acT_at _ _ ⟨k.val, lt_of_lt_of_eq k.isLt t1_trips⟩ ⟨5, by decide⟩ x (emb0 (k0_off18_eq k) _ x) (emb1 (k0_off18_eq k) _ x)).symm
      · exact (congrFun (congrArg₂ (fun u v => pk (qB u) (qB v)) (ldX_eq arg1 X_arg1 i k0_h1 k ⟨8, by decide⟩) (ldX_eq arg1 X_arg1 i k0_h1 k ⟨9, by decide⟩)) x).trans
          (acT_at _ _ ⟨k.val, lt_of_lt_of_eq k.isLt t1_trips⟩ ⟨4, by decide⟩ x (emb0 (k0_off15_eq k) _ x) (emb1 (k0_off15_eq k) _ x)).symm
      · exact (congrFun (congrArg₂ (fun u v => pk (qB u) (qB v)) (ldX_eq arg1 X_arg1 i k0_h1 k ⟨6, by decide⟩) (ldX_eq arg1 X_arg1 i k0_h1 k ⟨7, by decide⟩)) x).trans
          (acT_at _ _ ⟨k.val, lt_of_lt_of_eq k.isLt t1_trips⟩ ⟨3, by decide⟩ x (emb0 (k0_off12_eq k) _ x) (emb1 (k0_off12_eq k) _ x)).symm
      · exact (congrFun (congrArg₂ (fun u v => pk (qB u) (qB v)) (ldX_eq arg1 X_arg1 i k0_h1 k ⟨4, by decide⟩) (ldX_eq arg1 X_arg1 i k0_h1 k ⟨5, by decide⟩)) x).trans
          (acT_at _ _ ⟨k.val, lt_of_lt_of_eq k.isLt t1_trips⟩ ⟨2, by decide⟩ x (emb0 (k0_off9_eq k) _ x) (emb1 (k0_off9_eq k) _ x)).symm
      · exact (congrFun (congrArg₂ (fun u v => pk (qB u) (qB v)) (ldX_eq arg1 X_arg1 i k0_h1 k ⟨2, by decide⟩) (ldX_eq arg1 X_arg1 i k0_h1 k ⟨3, by decide⟩)) x).trans
          (acT_at _ _ ⟨k.val, lt_of_lt_of_eq k.isLt t1_trips⟩ ⟨1, by decide⟩ x (emb0 (k0_off6_eq k) _ x) (emb1 (k0_off6_eq k) _ x)).symm
      · exact (congrFun (congrArg₂ (fun u v => pk (qB u) (qB v)) (ldX_eq arg1 X_arg1 i k0_h1 k ⟨0, by decide⟩) (ldX_eq arg1 X_arg1 i k0_h1 k ⟨1, by decide⟩)) x).trans
          (acT_at _ _ ⟨k.val, lt_of_lt_of_eq k.isLt t1_trips⟩ ⟨0, by decide⟩ x (emb0 (k0_off3_eq k) _ x) (emb1 (k0_off3_eq k) _ x)).symm
    · obtain ⟨g, hg⟩ : ∃ g : Fin 8, (y 1).val / 128 = g.val := ⟨cg (n := 8) (y 1), rfl⟩
      fin_cases g
      · have hg : (y 1).val / 128 = 0 := hg
        refine ⟨_, List.mem_of_getElem? (i := 7) rfl, ?_⟩
        exact (mem2 (k0_off3_eq k) (k0_off3_inb i k k0_h1) y).mpr (by omega)
      · have hg : (y 1).val / 128 = 1 := hg
        refine ⟨_, List.mem_of_getElem? (i := 6) rfl, ?_⟩
        exact (mem2 (k0_off6_eq k) (k0_off6_inb i k k0_h1) y).mpr (by omega)
      · have hg : (y 1).val / 128 = 2 := hg
        refine ⟨_, List.mem_of_getElem? (i := 5) rfl, ?_⟩
        exact (mem2 (k0_off9_eq k) (k0_off9_inb i k k0_h1) y).mpr (by omega)
      · have hg : (y 1).val / 128 = 3 := hg
        refine ⟨_, List.mem_of_getElem? (i := 4) rfl, ?_⟩
        exact (mem2 (k0_off12_eq k) (k0_off12_inb i k k0_h1) y).mpr (by omega)
      · have hg : (y 1).val / 128 = 4 := hg
        refine ⟨_, List.mem_of_getElem? (i := 3) rfl, ?_⟩
        exact (mem2 (k0_off15_eq k) (k0_off15_inb i k k0_h1) y).mpr (by omega)
      · have hg : (y 1).val / 128 = 5 := hg
        refine ⟨_, List.mem_of_getElem? (i := 2) rfl, ?_⟩
        exact (mem2 (k0_off18_eq k) (k0_off18_inb i k k0_h1) y).mpr (by omega)
      · have hg : (y 1).val / 128 = 6 := hg
        refine ⟨_, List.mem_of_getElem? (i := 1) rfl, ?_⟩
        exact (mem2 (k0_off21_eq k) (k0_off21_inb i k k0_h1) y).mpr (by omega)
      · have hg : (y 1).val / 128 = 7 := hg
        refine ⟨_, List.mem_of_getElem? (i := 0) rfl, ?_⟩
        exact (mem2 (k0_off24_eq k) (k0_off24_inb i k k0_h1) y).mpr (by omega)
  · rename_i h
    have hk : ¬ (y 0).val / 32 = k.val := h
    refine View.read_writes_apply_of_forall_not_mem _ _ y _ ?_
    simp only [List.forall_mem_cons]
    exact ⟨fun hm => hk (by have := (mem2 (k0_off24_eq k) (k0_off24_inb i k k0_h1) y).mp hm; omega), fun hm => hk (by have := (mem2 (k0_off21_eq k) (k0_off21_inb i k k0_h1) y).mp hm; omega), fun hm => hk (by have := (mem2 (k0_off18_eq k) (k0_off18_inb i k k0_h1) y).mp hm; omega), fun hm => hk (by have := (mem2 (k0_off15_eq k) (k0_off15_inb i k k0_h1) y).mp hm; omega), fun hm => hk (by have := (mem2 (k0_off12_eq k) (k0_off12_inb i k k0_h1) y).mp hm; omega), fun hm => hk (by have := (mem2 (k0_off9_eq k) (k0_off9_inb i k k0_h1) y).mp hm; omega), fun hm => hk (by have := (mem2 (k0_off6_eq k) (k0_off6_inb i k k0_h1) y).mp hm; omega), fun hm => hk (by have := (mem2 (k0_off3_eq k) (k0_off3_inb i k k0_h1) y).mp hm; omega), by simp⟩

theorem slice16_at (v : FVec F S32x128 .f32) (r : Fin 32) (g : Fin 16) :
    extractStridedSlice S32x16 ![0, 0] v slices_S32x128_o0_0_S32x16 (ix2 r g) = v (ix2 r ⟨g.val, by omega⟩) := by
  pointwise

theorem step1_6 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (hv : v786 = iota .tc S32x128 32 [1] iota_S32x128_d1_w32) (f : BufTy.Contents (Elt F) arg6.view.ty) (k : Fin k0_t1_loop.trips) (y : S768x16.Idx) :
    arg6.view.read (Elt F) (arg6.view.writes (Elt F) f (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 k).2.1) y =
      if (rb (y 0)).val = k.val then asT (arg1.view.read (Elt F) X_arg1) y else arg6.view.read (Elt F) f y := by
  rw [trip1_arg6]
  split
  · rename_i h
    have hk : (y 0).val / 32 = k.val := h
    refine View.read_writes_apply_of_pieces _ _ (asT (arg1.view.read (Elt F) X_arg1)) _ ?_ y ?_
    · simp only [List.forall_mem_cons]
      refine ⟨fun x => ?_, by simp⟩
      have e0 := emb0 (k0_off25_eq k) (k0_off25_inb i k k0_h1) x
      have e1 := emb1 (k0_off25_eq k) (k0_off25_inb i k k0_h1) x
      subst hv
      obtain ⟨r, g, rfl⟩ : ∃ (r : Fin 32) (g : Fin 16), x = ix2 r g := ⟨x 0, x 1, (ix2_eta x).symm⟩
      refine (slice16_at _ r g).trans ((putAll_at _ r _ 16 (by omega) g.isLt).trans ?_)
      refine (congrFun (congrArg qS (ldX_eq arg1 X_arg1 i k0_h1 k g)) _).trans ?_
      exact (asT_at _ _ ⟨k.val, lt_of_lt_of_eq k.isLt t1_trips⟩ g r e0 (e1.trans (Nat.zero_add _))).symm
    · refine ⟨_, List.mem_of_getElem? (i := 0) rfl, ?_⟩
      exact (mem2 (k0_off25_eq k) (k0_off25_inb i k k0_h1) y).mpr (by have := (y 1).isLt; have : (y 1).val < 16 := this; omega)
  · rename_i h
    have hk : ¬ (y 0).val / 32 = k.val := h
    refine View.read_writes_apply_of_forall_not_mem _ _ y _ ?_
    simp only [List.forall_mem_cons]
    exact ⟨fun hm => hk (by have := (mem2 (k0_off25_eq k) (k0_off25_inb i k k0_h1) y).mp hm; omega), by simp⟩

theorem slice16z_at (v : FVec F S32x128 .f32) (r : Fin 32) (g : Fin 16) (w : FVec F S32x1 .f32) (h : v (ix2 r ⟨g.val, by omega⟩) = w (ix2 r 0)) :
    trunci 8 (fptosi 32 (extractStridedSlice S32x16 ![0, 0] v slices_S32x128_o0_0_S32x16)) natLt_8_32 (ix2 r g) =
      trunci 8 (fptosi 32 w) natLt_8_32 (ix2 r 0) := by
  pointwise
  rw [h]

theorem step1_7 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (hv : v786 = iota .tc S32x128 32 [1] iota_S32x128_d1_w32) (f : BufTy.Contents (Elt F) arg7.view.ty) (k : Fin k0_t1_loop.trips) (y : S768x16.Idx) :
    arg7.view.read (Elt F) (arg7.view.writes (Elt F) f (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 k).2.2.1) y =
      if (rb (y 0)).val = k.val then azT (arg1.view.read (Elt F) X_arg1) y else arg7.view.read (Elt F) f y := by
  rw [trip1_arg7]
  split
  · rename_i h
    have hk : (y 0).val / 32 = k.val := h
    refine View.read_writes_apply_of_pieces _ _ (azT (arg1.view.read (Elt F) X_arg1)) _ ?_ y ?_
    · simp only [List.forall_mem_cons]
      refine ⟨fun x => ?_, by simp⟩
      have e0 := emb0 (k0_off25_eq k) (k0_off25_inb i k k0_h1) x
      have e1 := emb1 (k0_off25_eq k) (k0_off25_inb i k k0_h1) x
      subst hv
      obtain ⟨r, g, rfl⟩ : ∃ (r : Fin 32) (g : Fin 16), x = ix2 r g := ⟨x 0, x 1, (ix2_eta x).symm⟩
      refine (slice16z_at _ r g _ (putAll_at _ r _ 16 (by omega) g.isLt)).trans ?_
      refine (congrFun (congrArg (fun u => trunci 8 (fptosi 32 (qZ u)) natLt_8_32) (ldX_eq arg1 X_arg1 i k0_h1 k g)) _).trans ?_
      exact (azT_at _ _ ⟨k.val, lt_of_lt_of_eq k.isLt t1_trips⟩ g r e0 (e1.trans (Nat.zero_add _))).symm
    · refine ⟨_, List.mem_of_getElem? (i := 0) rfl, ?_⟩
      exact (mem2 (k0_off25_eq k) (k0_off25_inb i k k0_h1) y).mpr (by have := (y 1).isLt; have : (y 1).val < 16 := this; omega)
  · rename_i h
    have hk : ¬ (y 0).val / 32 = k.val := h
    refine View.read_writes_apply_of_forall_not_mem _ _ y _ ?_
    simp only [List.forall_mem_cons]
    exact ⟨fun hm => hk (by have := (mem2 (k0_off25_eq k) (k0_off25_inb i k k0_h1) y).mp hm; omega), by simp⟩

theorem loop1_5_aux (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (f : BufTy.Contents (Elt F) arg5.view.ty) (y : S768x1024.Idx) : ∀ n : ℕ, n ≤ 24 →
    arg5.view.read (Elt F) (arg5.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 n).1) y =
      if (rb (y 0)).val < n then acT (arg1.view.read (Elt F) X_arg1) y else arg5.view.read (Elt F) f y
  | 0, _ => by rw [if_neg (Nat.not_lt_zero _)]; rfl
  | n + 1, hn => by
    rw [pb_k0_t1_succ (k := ⟨n, by rw [t1_trips]; omega⟩)]
    refine (congrFun (congrArg _ (View.writes_append _ _ _ _)) y).trans ?_
    refine (step1_5 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1  _ ⟨n, by rw [t1_trips]; omega⟩ y).trans ?_
    dsimp only
    rw [loop1_5_aux 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1  f y n (by omega)]
    split
    · rw [if_pos (by omega)]
    · split
      · rw [if_pos (by omega)]
      · rw [if_neg (by omega)]

theorem loop1_5 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (f : BufTy.Contents (Elt F) arg5.view.ty) :
    arg5.view.read (Elt F) (arg5.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 k0_t1_loop.trips).1) =
      acT (arg1.view.read (Elt F) X_arg1) := by
  funext y
  rw [t1_trips, loop1_5_aux 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1  f y 24 le_rfl, if_pos (rb (y 0)).isLt]

theorem loop1_6_aux (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (hv : v786 = iota .tc S32x128 32 [1] iota_S32x128_d1_w32) (f : BufTy.Contents (Elt F) arg6.view.ty) (y : S768x16.Idx) : ∀ n : ℕ, n ≤ 24 →
    arg6.view.read (Elt F) (arg6.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 n).2.1) y =
      if (rb (y 0)).val < n then asT (arg1.view.read (Elt F) X_arg1) y else arg6.view.read (Elt F) f y
  | 0, _ => by rw [if_neg (Nat.not_lt_zero _)]; rfl
  | n + 1, hn => by
    rw [pb_k0_t1_succ (k := ⟨n, by rw [t1_trips]; omega⟩)]
    refine (congrFun (congrArg _ (View.writes_append _ _ _ _)) y).trans ?_
    refine (step1_6 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 hv _ ⟨n, by rw [t1_trips]; omega⟩ y).trans ?_
    dsimp only
    rw [loop1_6_aux 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 hv f y n (by omega)]
    split
    · rw [if_pos (by omega)]
    · split
      · rw [if_pos (by omega)]
      · rw [if_neg (by omega)]

theorem loop1_6 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (hv : v786 = iota .tc S32x128 32 [1] iota_S32x128_d1_w32) (f : BufTy.Contents (Elt F) arg6.view.ty) :
    arg6.view.read (Elt F) (arg6.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 k0_t1_loop.trips).2.1) =
      asT (arg1.view.read (Elt F) X_arg1) := by
  funext y
  rw [t1_trips, loop1_6_aux 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 hv f y 24 le_rfl, if_pos (rb (y 0)).isLt]

theorem loop1_7_aux (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (hv : v786 = iota .tc S32x128 32 [1] iota_S32x128_d1_w32) (f : BufTy.Contents (Elt F) arg7.view.ty) (y : S768x16.Idx) : ∀ n : ℕ, n ≤ 24 →
    arg7.view.read (Elt F) (arg7.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 n).2.2.1) y =
      if (rb (y 0)).val < n then azT (arg1.view.read (Elt F) X_arg1) y else arg7.view.read (Elt F) f y
  | 0, _ => by rw [if_neg (Nat.not_lt_zero _)]; rfl
  | n + 1, hn => by
    rw [pb_k0_t1_succ (k := ⟨n, by rw [t1_trips]; omega⟩)]
    refine (congrFun (congrArg _ (View.writes_append _ _ _ _)) y).trans ?_
    refine (step1_7 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 hv _ ⟨n, by rw [t1_trips]; omega⟩ y).trans ?_
    dsimp only
    rw [loop1_7_aux 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 hv f y n (by omega)]
    split
    · rw [if_pos (by omega)]
    · split
      · rw [if_pos (by omega)]
      · rw [if_neg (by omega)]

theorem loop1_7 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (hv : v786 = iota .tc S32x128 32 [1] iota_S32x128_d1_w32) (f : BufTy.Contents (Elt F) arg7.view.ty) :
    arg7.view.read (Elt F) (arg7.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 k0_t1_loop.trips).2.2.1) =
      azT (arg1.view.read (Elt F) X_arg1) := by
  funext y
  rw [t1_trips, loop1_7_aux 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 hv f y 24 le_rfl, if_pos (rb (y 0)).isLt]

theorem loop1_11_aux (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (f : BufTy.Contents (Elt F) arg11.view.ty) (y : S768x2048.Idx) : ∀ n : ℕ, n ≤ 24 →
    arg11.view.read (Elt F) (arg11.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 n).2.2.2) y =
      if (rb (y 0)).val < n then aT (arg1.view.read (Elt F) X_arg1) y else arg11.view.read (Elt F) f y
  | 0, _ => by rw [if_neg (Nat.not_lt_zero _)]; rfl
  | n + 1, hn => by
    rw [pb_k0_t1_succ (k := ⟨n, by rw [t1_trips]; omega⟩)]
    refine (congrFun (congrArg _ (View.writes_append _ _ _ _)) y).trans ?_
    refine (step1_11 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1  _ ⟨n, by rw [t1_trips]; omega⟩ y).trans ?_
    dsimp only
    rw [loop1_11_aux 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1  f y n (by omega)]
    split
    · rw [if_pos (by omega)]
    · split
      · rw [if_pos (by omega)]
      · rw [if_neg (by omega)]

theorem loop1_11 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (k0_h1 : k0_cond1 i = 1#1) (v786 : IVec S32x128 32) (X_arg1 : BufTy.Contents (Elt F) arg1.view.ty) (f : BufTy.Contents (Elt F) arg11.view.ty) :
    arg11.view.read (Elt F) (arg11.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1 k0_t1_loop.trips).2.2.2) =
      aT (arg1.view.read (Elt F) X_arg1) := by
  funext y
  rw [t1_trips, loop1_11_aux 𝒱 c bd i arg1 harg1 arg2 harg2 arg3 harg3 arg4 harg4 arg5 harg5 arg6 harg6 arg7 harg7 arg8 harg8 arg9 harg9 arg10 harg10 arg11 harg11 arg12 harg12 arg13 harg13 k0_h1 v786 X_arg1  f y 24 le_rfl, if_pos (rb (y 0)).isLt]

end Cert.KernelIdeal.Val

end
-- ==== Proof.Value.Loop2.lean ====
/- What the loop over a tile's rows leaves in the buffers it stores into, at every element. -/
module

public import proofs.«01_k».proof.Proof.Value.Loop1

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

variable {F : FTy → Type} [FloatOps F]

/-- One group of 32 rows of one of the two products. -/
def blkT (T : Vec F S2x768x256 .f32) (b : Fin 2) (k : Fin 24) (h : Fin 2) : FVec F S32x128 .f32 :=
  fun y => T (ix3 b ⟨32 * k.val + (y 0).val, by have := (y 0).isLt; have : (y 0).val < 32 := this; omega⟩
    ⟨128 * h.val + (y 1).val, by have := (y 1).isLt; have : (y 1).val < 128 := this; omega⟩)

/-- The gated products of one group of 32 rows. -/
def gateT (T : Vec F S2x768x256 .f32) (k : Fin 24) (h : Fin 2) : FVec F S32x128 .bf16 := gate (blkT T 0 k h) (blkT T 1 k h)

/-- The gated products of a tile. -/
def hT (T : Vec F S2x768x256 .f32) : Vec F S768x256 .bf16 := fun y => gateT T (rb (y 0)) (cg (n := 2) (y 1)) (ix2 (rl (y 0)) (cl (n := 2) (y 1)))

/-- Their codes, two to a byte. -/
def hcT (T : Vec F S2x768x256 .f32) : Vec F S768x128 .i8 := fun y =>
  pk (qB (wide (gateT T (rb (y 0)) 0))) (qB (wide (gateT T (rb (y 0)) 1))) (ix2 (rl (y 0)) (y 1))

/-- The scales, the tile's two put into their lanes. -/
def hsT (j : ℕ) (T : Vec F S2x768x256 .f32) (s : Vec F S768x44 .f32) : Vec F S768x44 .f32 := fun y =>
  if (y 1).val = 2 * j + 1 then qS (wide (gateT T (rb (y 0)) 1)) (ix2 (rl (y 0)) 0)
  else if (y 1).val = 2 * j then qS (wide (gateT T (rb (y 0)) 0)) (ix2 (rl (y 0)) 0)
  else s y

/-- The zero points, the tile's two put into their lanes. -/
def hzT (j : ℕ) (T : Vec F S2x768x256 .f32) (s : Vec F S768x44 .i8) : Vec F S768x44 .i8 := fun y =>
  if (y 1).val = 2 * j + 1 then trunci 8 (fptosi 32 (qZ (wide (gateT T (rb (y 0)) 1)))) natLt_8_32 (ix2 (rl (y 0)) 0)
  else if (y 1).val = 2 * j then trunci 8 (fptosi 32 (qZ (wide (gateT T (rb (y 0)) 0)))) natLt_8_32 (ix2 (rl (y 0)) 0)
  else trunci 8 (fptosi 32 (sitofp (F := F) .f32 (extui 32 (s : IVec S768x44 8) natLt_8_32))) natLt_8_32 y

theorem put44_at (lane : IVec S32x44 32) (acc : FVec F S32x44 .f32) (g : BitVec 32) (col : FVec F S32x1 .f32) (r : Fin 32) (c : Fin 44) :
    put44 lane acc g col (ix2 r c) = if lane (ix2 r c) = g then col (ix2 r 0) else acc (ix2 r c) := by
  pointwise [put44]
  exact sel_eq _ _ _ _

theorem lane44_at (r : Fin 32) (c : Fin 44) : iota .tc S32x44 32 [1] iota_S32x44_d1_w32 (ix2 r c) = BitVec.ofNat 32 c.val := by
  pointwise

/-- A trip's loads read a group of the products. -/
theorem ldT_eq (arg13 : Memref sig .tc .vmem S2x768x256 .f32) (X : BufTy.Contents (Elt F) arg13.view.ty) (b : Fin 2) (k : Fin 24) (h : Fin 2)
    {off : Fin 3 → ℕ} (hoff : off = ![b.val, 32 * k.val, 128 * h.val]) (inb : ∀ a, off a + S1x32x128.size a ≤ S2x768x256.size a) :
    shapeCast S32x128 (View.readAt (Elt F) arg13.view (Rect.unit (s := S2x768x256) off S1x32x128.size inb).toLoadRect X) shapeCasts_S1x32x128_S32x128
      = blkT (arg13.view.read (Elt F) X) b k h := by
  subst hoff
  funext y
  obtain ⟨r, l, rfl⟩ : ∃ (r : Fin 32) (l : Fin 128), y = ix2 r l := ⟨y 0, y 1, (ix2_eta y).symm⟩
  unfold blkT
  have e : ∀ v : FVec F S1x32x128 .f32, shapeCast S32x128 v shapeCasts_S1x32x128_S32x128 (ix2 r l) = v (ix3 0 r l) := fun v => by pointwise
  refine (e _).trans (congrArg (arg13.view.read (Elt F) X) (funext fun a => Fin.ext ?_))
  fin_cases a
  · show b.val + 1 * 0 = b.val; omega
  · show 32 * k.val + 1 * r.val = 32 * k.val + r.val; omega
  · show 128 * h.val + 1 * l.val = 128 * h.val + l.val; omega

theorem gt0_eq (arg13 : Memref sig .tc .vmem S2x768x256 .f32) (X : BufTy.Contents (Elt F) arg13.view.ty) (k : Fin k0_t2_loop.trips) :
    gt0 arg13 X k = gateT (arg13.view.read (Elt F) X) ⟨k.val, lt_of_lt_of_eq k.isLt t2_trips⟩ 0 := by
  unfold gt0 gateT
  rw [ldT_eq arg13 X 0 ⟨k.val, lt_of_lt_of_eq k.isLt t2_trips⟩ 0 (k0_off27_eq k), ldT_eq arg13 X 1 ⟨k.val, lt_of_lt_of_eq k.isLt t2_trips⟩ 0 (k0_off28_eq k)]

theorem gt1_eq (arg13 : Memref sig .tc .vmem S2x768x256 .f32) (X : BufTy.Contents (Elt F) arg13.view.ty) (k : Fin k0_t2_loop.trips) :
    gt1 arg13 X k = gateT (arg13.view.read (Elt F) X) ⟨k.val, lt_of_lt_of_eq k.isLt t2_trips⟩ 1 := by
  unfold gt1 gateT
  rw [ldT_eq arg13 X 0 ⟨k.val, lt_of_lt_of_eq k.isLt t2_trips⟩ 1 (k0_off30_eq k), ldT_eq arg13 X 1 ⟨k.val, lt_of_lt_of_eq k.isLt t2_trips⟩ 1 (k0_off31_eq k)]

theorem hT_at (T : Vec F S2x768x256 .f32) (y : S768x256.Idx) (k : Fin 24) (g : Fin 2) (x : S32x128.Idx)
    (h0 : (y 0).val = 32 * k.val + (x 0).val) (h1 : (y 1).val = 128 * g.val + (x 1).val) : hT T y = gateT T k g x := by
  unfold hT
  rw [rb_of (k := k) (x 0).isLt h0, cg_of (n := 2) (g := g) (x 1).isLt h1, rl_of (x := x 0) h0, cl_of (n := 2) (x := x 1) h1]
  exact congrArg _ (ix2_eta x)

theorem hcT_at (T : Vec F S2x768x256 .f32) (y : S768x128.Idx) (k : Fin 24) (x : S32x128.Idx)
    (h0 : (y 0).val = 32 * k.val + (x 0).val) (h1 : (y 1).val = (x 1).val) :
    hcT T y = pk (qB (wide (gateT T k 0))) (qB (wide (gateT T k 1))) x := by
  have hg : y 1 = x 1 := Fin.ext h1
  unfold hcT
  rw [rb_of (k := k) (x 0).isLt h0, rl_of (x := x 0) h0, hg]
  exact congrArg _ (ix2_eta x)

theorem step2_4 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (f : BufTy.Contents (Elt F) arg4.view.ty) (f_arg4 : BufTy.Contents (Elt F) arg4.view.ty) (f_arg8 : BufTy.Contents (Elt F) arg8.view.ty) (f_arg9 : BufTy.Contents (Elt F) arg9.view.ty) (f_arg10 : BufTy.Contents (Elt F) arg10.view.ty) (k : Fin k0_t2_loop.trips) (y : S768x256.Idx) :
    arg4.view.read (Elt F) (arg4.view.writes (Elt F) f (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 k f_arg4 f_arg8 f_arg9 f_arg10).1) y =
      if (rb (y 0)).val = k.val then hT (arg13.view.read (Elt F) X_arg13) y else arg4.view.read (Elt F) f y := by
  rw [trip2_arg4]
  split
  · rename_i h
    have hk : (y 0).val / 32 = k.val := h
    refine View.read_writes_apply_of_pieces _ _ (hT (arg13.view.read (Elt F) X_arg13)) _ ?_ y ?_
    · simp only [List.forall_mem_cons]
      refine ⟨fun x => ?_, fun x => ?_, by simp⟩
      · exact (congrFun (gt1_eq arg13 X_arg13 k) x).trans (hT_at _ _ ⟨k.val, lt_of_lt_of_eq k.isLt t2_trips⟩ 1 x (emb0 (k0_off32_eq k) (k0_off32_inb k) x) (emb1 (k0_off32_eq k) (k0_off32_inb k) x)).symm
      · exact (congrFun (gt0_eq arg13 X_arg13 k) x).trans (hT_at _ _ ⟨k.val, lt_of_lt_of_eq k.isLt t2_trips⟩ 0 x (emb0 (k0_off29_eq k) (k0_off29_inb k) x) (emb1 (k0_off29_eq k) (k0_off29_inb k) x)).symm
    · by_cases hg : (y 1).val < 128
      · refine ⟨_, List.mem_of_getElem? (i := 1) rfl, ?_⟩
        exact (mem2 (k0_off29_eq k) (k0_off29_inb k) y).mpr (by omega)
      · refine ⟨_, List.mem_of_getElem? (i := 0) rfl, ?_⟩
        exact (mem2 (k0_off32_eq k) (k0_off32_inb k) y).mpr (by have := (y 1).isLt; have : (y 1).val < 256 := this; omega)
  · rename_i h
    have hk : ¬ (y 0).val / 32 = k.val := h
    refine View.read_writes_apply_of_forall_not_mem _ _ y _ ?_
    simp only [List.forall_mem_cons]
    exact ⟨fun hm => hk (by have := (mem2 (k0_off32_eq k) (k0_off32_inb k) y).mp hm; omega), fun hm => hk (by have := (mem2 (k0_off29_eq k) (k0_off29_inb k) y).mp hm; omega), by simp⟩

theorem step2_8 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (f : BufTy.Contents (Elt F) arg8.view.ty) (f_arg4 : BufTy.Contents (Elt F) arg4.view.ty) (f_arg8 : BufTy.Contents (Elt F) arg8.view.ty) (f_arg9 : BufTy.Contents (Elt F) arg9.view.ty) (f_arg10 : BufTy.Contents (Elt F) arg10.view.ty) (k : Fin k0_t2_loop.trips) (y : S768x128.Idx) :
    arg8.view.read (Elt F) (arg8.view.writes (Elt F) f (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 k f_arg4 f_arg8 f_arg9 f_arg10).2.1) y =
      if (rb (y 0)).val = k.val then hcT (arg13.view.read (Elt F) X_arg13) y else arg8.view.read (Elt F) f y := by
  rw [trip2_arg8]
  split
  · rename_i h
    have hk : (y 0).val / 32 = k.val := h
    refine View.read_writes_apply_of_pieces _ _ (hcT (arg13.view.read (Elt F) X_arg13)) _ ?_ y ?_
    · simp only [List.forall_mem_cons]
      refine ⟨fun x => ?_, by simp⟩
      exact (congrFun (congrArg₂ (fun u v => pk (qB (wide u)) (qB (wide v))) (gt0_eq arg13 X_arg13 k) (gt1_eq arg13 X_arg13 k)) x).trans
        (hcT_at _ _ ⟨k.val, lt_of_lt_of_eq k.isLt t2_trips⟩ x (emb0 (k0_off33_eq k) (k0_off33_inb k) x) ((emb1 (k0_off33_eq k) (k0_off33_inb k) x).trans (Nat.zero_add _))).symm
    · refine ⟨_, List.mem_of_getElem? (i := 0) rfl, ?_⟩
      exact (mem2 (k0_off33_eq k) (k0_off33_inb k) y).mpr (by have := (y 1).isLt; have : (y 1).val < 128 := this; omega)
  · rename_i h
    have hk : ¬ (y 0).val / 32 = k.val := h
    refine View.read_writes_apply_of_forall_not_mem _ _ y _ ?_
    simp only [List.forall_mem_cons]
    exact ⟨fun hm => hk (by have := (mem2 (k0_off33_eq k) (k0_off33_inb k) y).mp hm; omega), by simp⟩

/-- The lanes a tile's two columns go to. -/
theorem gidx (j : ℕ) (hj : j < 22) (h : BitVec 32) (hn : ℕ) (e : h = BitVec.ofNat 32 hn) (hh : hn < 2) (c : Fin 44) :
    (BitVec.ofNat 32 c.val = Scalar.addi (Scalar.muli 2#32 (BitVec.ofNat 32 j)) h) ↔ c.val = 2 * j + hn := by
  subst e
  have : Scalar.addi (Scalar.muli 2#32 (BitVec.ofNat 32 j)) (BitVec.ofNat 32 hn) = BitVec.ofNat 32 (2 * j + hn) := by
    apply BitVec.eq_of_toNat_eq
    simp [Scalar.addi, Scalar.muli, IntOp.addi, IntOp.muli]
  rw [this]
  exact ofNat32_inj (by omega) (by omega)

theorem hs_piece (arg9 : Memref sig .tc .vmem S768x44 .f32) (f : BufTy.Contents (Elt F) arg9.view.ty) (T : Vec F S2x768x256 .f32) (j : ℕ) (hj : j < 22)
    (k : Fin 24) {off : Fin 2 → ℕ} (hoff : off = ![32 * k.val, 0]) (inb : ∀ a, off a + S32x44.size a ≤ S768x44.size a) (x : S32x44.Idx) :
    put44 (iota .tc S32x44 32 [1] iota_S32x44_d1_w32)
      (put44 (iota .tc S32x44 32 [1] iota_S32x44_d1_w32)
        (shapeCast S32x44 (View.readAt (Elt F) arg9.view (Rect.unit (s := S768x44) off S32x44.size inb).toLoadRect f) shapeCasts_S32x44_S32x44)
        (Scalar.addi (Scalar.muli 2#32 (BitVec.ofNat 32 j)) 0#32) (qS (wide (gateT T k 0))))
      (Scalar.addi (Scalar.muli 2#32 (BitVec.ofNat 32 j)) 1#32) (qS (wide (gateT T k 1))) x
      = hsT j T (arg9.view.read (Elt F) f) ((Rect.unit (s := S768x44) off S32x44.size inb).emb x) := by
  have e0 := emb0 hoff inb x
  have e1 := (emb1 hoff inb x).trans (Nat.zero_add _)
  obtain ⟨r, c, rfl⟩ : ∃ (r : Fin 32) (c : Fin 44), x = ix2 r c := ⟨x 0, x 1, (ix2_eta x).symm⟩
  rw [put44_at, put44_at, lane44_at]
  unfold hsT
  have i1 := gidx j hj 1#32 1 rfl (by decide) c
  have i0 := gidx j hj 0#32 0 rfl (by decide) c
  rw [rb_of (k := k) r.isLt e0, rl_of (x := r) e0]
  refine if_congr (i1.trans (by rw [e1]; rfl)) rfl (if_congr (i0.trans (by rw [e1]; rfl)) rfl ?_)
  exact congrFun (shapeCast_self _ _) _

theorem tz_congr {s s' : Shape} (v : FVec F s .f32) (w : FVec F s' .f32) (a : s.Idx) (b : s'.Idx) (h : v a = w b) :
    trunci 8 (fptosi 32 v) natLt_8_32 a = trunci 8 (fptosi 32 w) natLt_8_32 b :=
  congrArg (fun z : F .f32 => trunci 8 (fptosi 32 (fun _ : s.Idx => z)) natLt_8_32 a) h

theorem hz_put (A : FVec F S32x44 .f32) (g0 g1 : BitVec 32) (c0 c1 : FVec F S32x1 .f32) (lane : IVec S32x44 32) (r : Fin 32) (c : Fin 44) :
    trunci 8 (fptosi 32 (put44 lane (put44 lane A g0 c0) g1 c1)) natLt_8_32 (ix2 r c) =
      if lane (ix2 r c) = g1 then trunci 8 (fptosi 32 c1) natLt_8_32 (ix2 r 0)
      else if lane (ix2 r c) = g0 then trunci 8 (fptosi 32 c0) natLt_8_32 (ix2 r 0)
      else trunci 8 (fptosi 32 A) natLt_8_32 (ix2 r c) := by
  split
  · rename_i h
    exact tz_congr _ _ _ _ ((put44_at _ _ _ _ r c).trans (if_pos h))
  · rename_i h
    split
    · rename_i h'
      exact tz_congr _ _ _ _ ((put44_at _ _ _ _ r c).trans ((if_neg h).trans ((put44_at _ _ _ _ r c).trans (if_pos h'))))
    · rename_i h'
      exact tz_congr _ _ _ _ ((put44_at _ _ _ _ r c).trans ((if_neg h).trans ((put44_at _ _ _ _ r c).trans (if_neg h'))))

theorem hz_piece (arg10 : Memref sig .tc .vmem S768x44 .i8) (f : BufTy.Contents (Elt F) arg10.view.ty) (T : Vec F S2x768x256 .f32) (j : ℕ) (hj : j < 22)
    (k : Fin 24) {off : Fin 2 → ℕ} (hoff : off = ![32 * k.val, 0]) (inb : ∀ a, off a + S32x44.size a ≤ S768x44.size a) (x : S32x44.Idx) :
    trunci 8 (fptosi 32 (put44 (iota .tc S32x44 32 [1] iota_S32x44_d1_w32)
      (put44 (iota .tc S32x44 32 [1] iota_S32x44_d1_w32)
        (sitofp .f32 (extui 32 (shapeCast S32x44 (View.readAt (Elt F) arg10.view (Rect.unit (s := S768x44) off S32x44.size inb).toLoadRect f) shapeCasts_S32x44_S32x44 : IVec S32x44 8) natLt_8_32))
        (Scalar.addi (Scalar.muli 2#32 (BitVec.ofNat 32 j)) 0#32) (qZ (wide (gateT T k 0))))
      (Scalar.addi (Scalar.muli 2#32 (BitVec.ofNat 32 j)) 1#32) (qZ (wide (gateT T k 1))))) natLt_8_32 x
      = hzT j T (arg10.view.read (Elt F) f) ((Rect.unit (s := S768x44) off S32x44.size inb).emb x) := by
  have e0 := emb0 hoff inb x
  have e1 := (emb1 hoff inb x).trans (Nat.zero_add _)
  obtain ⟨r, c, rfl⟩ : ∃ (r : Fin 32) (c : Fin 44), x = ix2 r c := ⟨x 0, x 1, (ix2_eta x).symm⟩
  rw [hz_put, lane44_at]
  unfold hzT
  have i1 := gidx j hj 1#32 1 rfl (by decide) c
  have i0 := gidx j hj 0#32 0 rfl (by decide) c
  rw [rb_of (k := k) r.isLt e0, rl_of (x := r) e0]
  refine if_congr (i1.trans (by rw [e1]; rfl)) rfl (if_congr (i0.trans (by rw [e1]; rfl)) rfl ?_)
  exact congrArg (fun z : BitVec 8 => trunci 8 (fptosi 32 (sitofp (F := F) .f32 (extui 32 (fun _ : S32x44.Idx => z) natLt_8_32))) natLt_8_32 (ix2 r c))
    (congrFun (shapeCast_self _ _) (ix2 r c))

theorem step2_9 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (j : ℕ) (hj : j < 22) (h0 : arg0 = BitVec.ofNat 32 j) (hv : v784 = iota .tc S32x44 32 [1] iota_S32x44_d1_w32) (f : BufTy.Contents (Elt F) arg9.view.ty) (f_arg4 : BufTy.Contents (Elt F) arg4.view.ty) (f_arg8 : BufTy.Contents (Elt F) arg8.view.ty) (f_arg9 : BufTy.Contents (Elt F) arg9.view.ty) (f_arg10 : BufTy.Contents (Elt F) arg10.view.ty) (k : Fin k0_t2_loop.trips) (y : S768x44.Idx) :
    arg9.view.read (Elt F) (arg9.view.writes (Elt F) f (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 k f_arg4 f_arg8 f_arg9 f_arg10).2.2.1) y =
      if (rb (y 0)).val = k.val then hsT j (arg13.view.read (Elt F) X_arg13) (arg9.view.read (Elt F) f_arg9) y else arg9.view.read (Elt F) f y := by
  rw [trip2_arg9, gt0_eq, gt1_eq]
  subst h0 hv
  split
  · rename_i h
    have hk : (y 0).val / 32 = k.val := h
    refine View.read_writes_apply_of_pieces _ _ (hsT j (arg13.view.read (Elt F) X_arg13) (arg9.view.read (Elt F) f_arg9)) _ ?_ y ?_
    · simp only [List.forall_mem_cons]
      refine ⟨fun x => ?_, by simp⟩
      exact hs_piece arg9 f_arg9 _ j hj ⟨k.val, lt_of_lt_of_eq k.isLt t2_trips⟩ (k0_off26_eq k) (k0_off26_inb k) x
    · refine ⟨_, List.mem_of_getElem? (i := 0) rfl, ?_⟩
      exact (mem2 (k0_off26_eq k) (k0_off26_inb k) y).mpr (by have := (y 1).isLt; have : (y 1).val < 44 := this; omega)
  · rename_i h
    have hk : ¬ (y 0).val / 32 = k.val := h
    refine View.read_writes_apply_of_forall_not_mem _ _ y _ ?_
    simp only [List.forall_mem_cons]
    exact ⟨fun hm => hk (by have := (mem2 (k0_off26_eq k) (k0_off26_inb k) y).mp hm; omega), by simp⟩

theorem step2_10 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (j : ℕ) (hj : j < 22) (h0 : arg0 = BitVec.ofNat 32 j) (hv : v784 = iota .tc S32x44 32 [1] iota_S32x44_d1_w32) (f : BufTy.Contents (Elt F) arg10.view.ty) (f_arg4 : BufTy.Contents (Elt F) arg4.view.ty) (f_arg8 : BufTy.Contents (Elt F) arg8.view.ty) (f_arg9 : BufTy.Contents (Elt F) arg9.view.ty) (f_arg10 : BufTy.Contents (Elt F) arg10.view.ty) (k : Fin k0_t2_loop.trips) (y : S768x44.Idx) :
    arg10.view.read (Elt F) (arg10.view.writes (Elt F) f (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 k f_arg4 f_arg8 f_arg9 f_arg10).2.2.2) y =
      if (rb (y 0)).val = k.val then hzT j (arg13.view.read (Elt F) X_arg13) (arg10.view.read (Elt F) f_arg10) y else arg10.view.read (Elt F) f y := by
  rw [trip2_arg10, gt0_eq, gt1_eq]
  subst h0 hv
  split
  · rename_i h
    have hk : (y 0).val / 32 = k.val := h
    refine View.read_writes_apply_of_pieces _ _ (hzT j (arg13.view.read (Elt F) X_arg13) (arg10.view.read (Elt F) f_arg10)) _ ?_ y ?_
    · simp only [List.forall_mem_cons]
      refine ⟨fun x => ?_, by simp⟩
      exact hz_piece arg10 f_arg10 _ j hj ⟨k.val, lt_of_lt_of_eq k.isLt t2_trips⟩ (k0_off26_eq k) (k0_off26_inb k) x
    · refine ⟨_, List.mem_of_getElem? (i := 0) rfl, ?_⟩
      exact (mem2 (k0_off26_eq k) (k0_off26_inb k) y).mpr (by have := (y 1).isLt; have : (y 1).val < 44 := this; omega)
  · rename_i h
    have hk : ¬ (y 0).val / 32 = k.val := h
    refine View.read_writes_apply_of_forall_not_mem _ _ y _ ?_
    simp only [List.forall_mem_cons]
    exact ⟨fun hm => hk (by have := (mem2 (k0_off26_eq k) (k0_off26_inb k) y).mp hm; omega), by simp⟩

theorem loop2_4_aux (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (G_arg4 : BufTy.Contents (Elt F) arg4.view.ty) (G_arg8 : BufTy.Contents (Elt F) arg8.view.ty) (G_arg9 : BufTy.Contents (Elt F) arg9.view.ty) (G_arg10 : BufTy.Contents (Elt F) arg10.view.ty) (y : S768x256.Idx) : ∀ n : ℕ, n ≤ 24 →
    arg4.view.read (Elt F) (arg4.view.writes (Elt F) G_arg4 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 n).1) y =
      if (rb (y 0)).val < n then hT (arg13.view.read (Elt F) X_arg13) y else arg4.view.read (Elt F) G_arg4 y
  | 0, _ => by rw [if_neg (Nat.not_lt_zero _)]; rfl
  | n + 1, hn => by
    rw [pb_k0_t2_succ (k := ⟨n, by rw [t2_trips]; omega⟩)]
    refine (congrFun (congrArg _ (View.writes_append _ _ _ _)) y).trans ?_
    refine (step2_4 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 _ _ _ _ _ ⟨n, by rw [t2_trips]; omega⟩ y).trans ?_
    dsimp only
    split
    · rw [if_pos (by omega)]
    · rw [loop2_4_aux 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 y n (by omega)]
      split
      · rw [if_pos (by omega)]
      · rw [if_neg (by omega)]

theorem loop2_4 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (G_arg4 : BufTy.Contents (Elt F) arg4.view.ty) (G_arg8 : BufTy.Contents (Elt F) arg8.view.ty) (G_arg9 : BufTy.Contents (Elt F) arg9.view.ty) (G_arg10 : BufTy.Contents (Elt F) arg10.view.ty) :
    arg4.view.read (Elt F) (arg4.view.writes (Elt F) G_arg4 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 k0_t2_loop.trips).1) =
      hT (arg13.view.read (Elt F) X_arg13) := by
  funext y
  rw [t2_trips, loop2_4_aux 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 y 24 le_rfl, if_pos (rb (y 0)).isLt]

theorem loop2_8_aux (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (G_arg4 : BufTy.Contents (Elt F) arg4.view.ty) (G_arg8 : BufTy.Contents (Elt F) arg8.view.ty) (G_arg9 : BufTy.Contents (Elt F) arg9.view.ty) (G_arg10 : BufTy.Contents (Elt F) arg10.view.ty) (y : S768x128.Idx) : ∀ n : ℕ, n ≤ 24 →
    arg8.view.read (Elt F) (arg8.view.writes (Elt F) G_arg8 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 n).2.1) y =
      if (rb (y 0)).val < n then hcT (arg13.view.read (Elt F) X_arg13) y else arg8.view.read (Elt F) G_arg8 y
  | 0, _ => by rw [if_neg (Nat.not_lt_zero _)]; rfl
  | n + 1, hn => by
    rw [pb_k0_t2_succ (k := ⟨n, by rw [t2_trips]; omega⟩)]
    refine (congrFun (congrArg _ (View.writes_append _ _ _ _)) y).trans ?_
    refine (step2_8 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 _ _ _ _ _ ⟨n, by rw [t2_trips]; omega⟩ y).trans ?_
    dsimp only
    split
    · rw [if_pos (by omega)]
    · rw [loop2_8_aux 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 y n (by omega)]
      split
      · rw [if_pos (by omega)]
      · rw [if_neg (by omega)]

theorem loop2_8 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (G_arg4 : BufTy.Contents (Elt F) arg4.view.ty) (G_arg8 : BufTy.Contents (Elt F) arg8.view.ty) (G_arg9 : BufTy.Contents (Elt F) arg9.view.ty) (G_arg10 : BufTy.Contents (Elt F) arg10.view.ty) :
    arg8.view.read (Elt F) (arg8.view.writes (Elt F) G_arg8 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 k0_t2_loop.trips).2.1) =
      hcT (arg13.view.read (Elt F) X_arg13) := by
  funext y
  rw [t2_trips, loop2_8_aux 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 y 24 le_rfl, if_pos (rb (y 0)).isLt]

theorem hsT_congr (j : ℕ) (T : Vec F S2x768x256 .f32) (s s' : Vec F S768x44 .f32) (y : S768x44.Idx) (h : s y = s' y) : hsT j T s y = hsT j T s' y := by
  unfold hsT
  rw [h]

theorem loop2_9_aux (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (G_arg4 : BufTy.Contents (Elt F) arg4.view.ty) (G_arg8 : BufTy.Contents (Elt F) arg8.view.ty) (G_arg9 : BufTy.Contents (Elt F) arg9.view.ty) (G_arg10 : BufTy.Contents (Elt F) arg10.view.ty) (j : ℕ) (hj : j < 22) (h0 : arg0 = BitVec.ofNat 32 j) (hv : v784 = iota .tc S32x44 32 [1] iota_S32x44_d1_w32) (y : S768x44.Idx) : ∀ n : ℕ, n ≤ 24 →
    arg9.view.read (Elt F) (arg9.view.writes (Elt F) G_arg9 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 n).2.2.1) y =
      if (rb (y 0)).val < n then hsT j (arg13.view.read (Elt F) X_arg13) (arg9.view.read (Elt F) G_arg9) y else arg9.view.read (Elt F) G_arg9 y
  | 0, _ => by rw [if_neg (Nat.not_lt_zero _)]; rfl
  | n + 1, hn => by
    rw [pb_k0_t2_succ (k := ⟨n, by rw [t2_trips]; omega⟩)]
    refine (congrFun (congrArg _ (View.writes_append _ _ _ _)) y).trans ?_
    refine (step2_9 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 j hj h0 hv _ _ _ _ _ ⟨n, by rw [t2_trips]; omega⟩ y).trans ?_
    dsimp only
    split
    · rename_i hk
      rw [if_pos (by omega)]
      refine hsT_congr j _ _ _ y ?_
      rw [loop2_9_aux 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 j hj h0 hv y n (by omega), if_neg (by omega)]
    · rw [loop2_9_aux 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 j hj h0 hv y n (by omega)]
      split
      · rw [if_pos (by omega)]
      · rw [if_neg (by omega)]

theorem loop2_9 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (G_arg4 : BufTy.Contents (Elt F) arg4.view.ty) (G_arg8 : BufTy.Contents (Elt F) arg8.view.ty) (G_arg9 : BufTy.Contents (Elt F) arg9.view.ty) (G_arg10 : BufTy.Contents (Elt F) arg10.view.ty) (j : ℕ) (hj : j < 22) (h0 : arg0 = BitVec.ofNat 32 j) (hv : v784 = iota .tc S32x44 32 [1] iota_S32x44_d1_w32) :
    arg9.view.read (Elt F) (arg9.view.writes (Elt F) G_arg9 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 k0_t2_loop.trips).2.2.1) =
      hsT j (arg13.view.read (Elt F) X_arg13) (arg9.view.read (Elt F) G_arg9) := by
  funext y
  rw [t2_trips, loop2_9_aux 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 j hj h0 hv y 24 le_rfl, if_pos (rb (y 0)).isLt]

theorem hzT_congr (j : ℕ) (T : Vec F S2x768x256 .f32) (s s' : Vec F S768x44 .i8) (y : S768x44.Idx) (h : s y = s' y) : hzT j T s y = hzT j T s' y := by
  unfold hzT
  split
  · rfl
  · split
    · rfl
    · exact congrArg (fun z : BitVec 8 => trunci 8 (fptosi 32 (sitofp (F := F) .f32 (extui 32 (fun _ : S768x44.Idx => z) natLt_8_32))) natLt_8_32 y) h

theorem loop2_10_aux (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (G_arg4 : BufTy.Contents (Elt F) arg4.view.ty) (G_arg8 : BufTy.Contents (Elt F) arg8.view.ty) (G_arg9 : BufTy.Contents (Elt F) arg9.view.ty) (G_arg10 : BufTy.Contents (Elt F) arg10.view.ty) (j : ℕ) (hj : j < 22) (h0 : arg0 = BitVec.ofNat 32 j) (hv : v784 = iota .tc S32x44 32 [1] iota_S32x44_d1_w32) (y : S768x44.Idx) : ∀ n : ℕ, n ≤ 24 →
    arg10.view.read (Elt F) (arg10.view.writes (Elt F) G_arg10 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 n).2.2.2) y =
      if (rb (y 0)).val < n then hzT j (arg13.view.read (Elt F) X_arg13) (arg10.view.read (Elt F) G_arg10) y else arg10.view.read (Elt F) G_arg10 y
  | 0, _ => by rw [if_neg (Nat.not_lt_zero _)]; rfl
  | n + 1, hn => by
    rw [pb_k0_t2_succ (k := ⟨n, by rw [t2_trips]; omega⟩)]
    refine (congrFun (congrArg _ (View.writes_append _ _ _ _)) y).trans ?_
    refine (step2_10 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 j hj h0 hv _ _ _ _ _ ⟨n, by rw [t2_trips]; omega⟩ y).trans ?_
    dsimp only
    split
    · rename_i hk
      rw [if_pos (by omega)]
      refine hzT_congr j _ _ _ y ?_
      rw [loop2_10_aux 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 j hj h0 hv y n (by omega), if_neg (by omega)]
    · rw [loop2_10_aux 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 j hj h0 hv y n (by omega)]
      split
      · rw [if_pos (by omega)]
      · rw [if_neg (by omega)]

theorem loop2_10 (𝒱 : Variants) (c : Dev nD) (bd : Option 𝒱.V) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (arg0 : BitVec 32) (v784 : IVec S32x44 32) (X_arg13 : BufTy.Contents (Elt F) arg13.view.ty) (G_arg4 : BufTy.Contents (Elt F) arg4.view.ty) (G_arg8 : BufTy.Contents (Elt F) arg8.view.ty) (G_arg9 : BufTy.Contents (Elt F) arg9.view.ty) (G_arg10 : BufTy.Contents (Elt F) arg10.view.ty) (j : ℕ) (hj : j < 22) (h0 : arg0 = BitVec.ofNat 32 j) (hv : v784 = iota .tc S32x44 32 [1] iota_S32x44_d1_w32) :
    arg10.view.read (Elt F) (arg10.view.writes (Elt F) G_arg10 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 k0_t2_loop.trips).2.2.2) =
      hzT j (arg13.view.read (Elt F) X_arg13) (arg10.view.read (Elt F) G_arg10) := by
  funext y
  rw [t2_trips, loop2_10_aux 𝒱 c bd i arg1 harg1 arg2 harg2 arg3 harg3 arg4 harg4 arg5 harg5 arg6 harg6 arg7 harg7 arg8 harg8 arg9 harg9 arg10 harg10 arg11 harg11 arg12 harg12 arg13 harg13 arg0 v784 X_arg13 G_arg4 G_arg8 G_arg9 G_arg10 j hj h0 hv y 24 le_rfl, if_pos (rb (y 0)).isLt]

end Cert.KernelIdeal.Val

end
-- ==== Proof.Value.Deq.lean ====
/- The weights' dequantisation and the two products: what the kernel's scratch buffers hold at a grid point. -/
module

public import proofs.«01_k».proof.Proof.Value.Loop2

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

variable {F : FTy → Type} [FloatOps F]

/-- The signed fields of 64 rows of bytes, two rows for each. -/
def nib (v : IVec S1x64x256 8) : IVec S128x256 16 :=
  shrsi
    (bitcast S128x256 16
      (ori
        (andi (shli (extui 32 (shapeCast S64x256 v shapeCasts_S1x64x256_S64x256) natLt_8_32) (broadcast S64x256 24#32)) (broadcast S64x256 4026531840#32))
        (andi (shli (extui 32 (shapeCast S64x256 v shapeCasts_S1x64x256_S64x256) natLt_8_32) (broadcast S64x256 12#32)) (broadcast S64x256 61440#32)))
      bitcasts_S64x256_w32_S128x256_w16)
    (broadcast S128x256 12#16)

/-- One group of 128 rows of weights. -/
def dq (v : IVec S1x64x256 8) (s : FVec F S1x1x256 .f32) : FVec F S1x128x256 .bf16 :=
  shapeCast S1x128x256
    (mulf (sitofp .bf16 (nib v))
      (broadcastTo S128x256 (truncf .bf16 (shapeCast S1x256 s shapeCasts_S1x1x256_S1x256) bitsLt_bf16_f32) broadcasts_S1x256_S128x256))
    shapeCasts_S128x256_S1x128x256

/-- 64 rows of bytes of a tile. -/
def slabW (W : Vec F S2x1024x256 .i8) (b : Fin 2) (g : Fin 16) : IVec S1x64x256 8 :=
  fun y => W (ix3 b ⟨64 * g.val + (y 1).val, by have := (y 1).isLt; have : (y 1).val < 64 := this; omega⟩ (y 2))

/-- One row of scales of a tile. -/
def slabS (S : Vec F S2x16x256 .f32) (b : Fin 2) (g : Fin 16) : FVec F S1x1x256 .f32 := fun y => S (ix3 b g (y 2))

/-- The tile's weights. -/
def wbT (W : Vec F S2x1024x256 .i8) (S : Vec F S2x16x256 .f32) : Vec F S2x2048x256 .bf16 :=
  fun y => dq (slabW W (y 0) (cg (n := 16) (y 1))) (slabS S (y 0) (cg (n := 16) (y 1))) (ix3 0 (cl (n := 16) (y 1)) (y 2))

/-- The two products. -/
def tT (A : Vec F S768x2048 .bf16) (WB : Vec F S2x2048x256 .bf16) : Vec F S2x768x256 .f32 :=
  fun y => k0_pay1 A (fun z : S1x2048x256.Idx => WB (ix3 (y 0) (z 1) (z 2))) (ix3 0 (y 1) (y 2))

/-- What the dequantisation stores, last first. -/
def wbL (arg2 : Memref sig .tc .vmem S2x1024x256 .i8) (X2 : BufTy.Contents (Elt F) arg2.view.ty) (arg3 : Memref sig .tc .vmem S2x16x256 .f32)
    (X3 : BufTy.Contents (Elt F) arg3.view.ty) : List (View.Piece (Elt F) S2x2048x256 .bf16) := [
  ⟨Rect.unit (s := S2x2048x256) ![1, 1920, 0] S1x128x256.size inb_S2x2048x256_S1x128x256_1_1920_0, dq (View.readAt (Elt F) arg2.view (Rect.unit (s := S2x1024x256) ![1, 960, 0] S1x64x256.size inb_S2x1024x256_S1x64x256_1_960_0).toLoadRect X2) (View.readAt (Elt F) arg3.view (Rect.unit (s := S2x16x256) ![1, 15, 0] S1x1x256.size inb_S2x16x256_S1x1x256_1_15_0).toLoadRect X3)⟩,
  ⟨Rect.unit (s := S2x2048x256) ![1, 1792, 0] S1x128x256.size inb_S2x2048x256_S1x128x256_1_1792_0, dq (View.readAt (Elt F) arg2.view (Rect.unit (s := S2x1024x256) ![1, 896, 0] S1x64x256.size inb_S2x1024x256_S1x64x256_1_896_0).toLoadRect X2) (View.readAt (Elt F) arg3.view (Rect.unit (s := S2x16x256) ![1, 14, 0] S1x1x256.size inb_S2x16x256_S1x1x256_1_14_0).toLoadRect X3)⟩,
  ⟨Rect.unit (s := S2x2048x256) ![1, 1664, 0] S1x128x256.size inb_S2x2048x256_S1x128x256_1_1664_0, dq (View.readAt (Elt F) arg2.view (Rect.unit (s := S2x1024x256) ![1, 832, 0] S1x64x256.size inb_S2x1024x256_S1x64x256_1_832_0).toLoadRect X2) (View.readAt (Elt F) arg3.view (Rect.unit (s := S2x16x256) ![1, 13, 0] S1x1x256.size inb_S2x16x256_S1x1x256_1_13_0).toLoadRect X3)⟩,
  ⟨Rect.unit (s := S2x2048x256) ![1, 1536, 0] S1x128x256.size inb_S2x2048x256_S1x128x256_1_1536_0, dq (View.readAt (Elt F) arg2.view (Rect.unit (s := S2x1024x256) ![1, 768, 0] S1x64x256.size inb_S2x1024x256_S1x64x256_1_768_0).toLoadRect X2) (View.readAt (Elt F) arg3.view (Rect.unit (s := S2x16x256) ![1, 12, 0] S1x1x256.size inb_S2x16x256_S1x1x256_1_12_0).toLoadRect X3)⟩,
  ⟨Rect.unit (s := S2x2048x256) ![1, 1408, 0] S1x128x256.size inb_S2x2048x256_S1x128x256_1_1408_0, dq (View.readAt (Elt F) arg2.view (Rect.unit (s := S2x1024x256) ![1, 704, 0] S1x64x256.size inb_S2x1024x256_S1x64x256_1_704_0).toLoadRect X2) (View.readAt (Elt F) arg3.view (Rect.unit (s := S2x16x256) ![1, 11, 0] S1x1x256.size inb_S2x16x256_S1x1x256_1_11_0).toLoadRect X3)⟩,
  ⟨Rect.unit (s := S2x2048x256) ![1, 1280, 0] S1x128x256.size inb_S2x2048x256_S1x128x256_1_1280_0, dq (View.readAt (Elt F) arg2.view (Rect.unit (s := S2x1024x256) ![1, 640, 0] S1x64x256.size inb_S2x1024x256_S1x64x256_1_640_0).toLoadRect X2) (View.readAt (Elt F) arg3.view (Rect.unit (s := S2x16x256) ![1, 10, 0] S1x1x256.size inb_S2x16x256_S1x1x256_1_10_0).toLoadRect X3)⟩,
  ⟨Rect.unit (s := S2x2048x256) ![1, 1152, 0] S1x128x256.size inb_S2x2048x256_S1x128x256_1_1152_0, dq (View.readAt (Elt F) arg2.view (Rect.unit (s := S2x1024x256) ![1, 576, 0] S1x64x256.size inb_S2x1024x256_S1x64x256_1_576_0).toLoadRect X2) (View.readAt (Elt F) arg3.view (Rect.unit (s := S2x16x256) ![1, 9, 0] S1x1x256.size inb_S2x16x256_S1x1x256_1_9_0).toLoadRect X3)⟩,
  ⟨Rect.unit (s := S2x2048x256) ![1, 1024, 0] S1x128x256.size inb_S2x2048x256_S1x128x256_1_1024_0, dq (View.readAt (Elt F) arg2.view (Rect.unit (s := S2x1024x256) ![1, 512, 0] S1x64x256.size inb_S2x1024x256_S1x64x256_1_512_0).toLoadRect X2) (View.readAt (Elt F) arg3.view (Rect.unit (s := S2x16x256) ![1, 8, 0] S1x1x256.size inb_S2x16x256_S1x1x256_1_8_0).toLoadRect X3)⟩,
  ⟨Rect.unit (s := S2x2048x256) ![1, 896, 0] S1x128x256.size inb_S2x2048x256_S1x128x256_1_896_0, dq (View.readAt (Elt F) arg2.view (Rect.unit (s := S2x1024x256) ![1, 448, 0] S1x64x256.size inb_S2x1024x256_S1x64x256_1_448_0).toLoadRect X2) (View.readAt (Elt F) arg3.view (Rect.unit (s := S2x16x256) ![1, 7, 0] S1x1x256.size inb_S2x16x256_S1x1x256_1_7_0).toLoadRect X3)⟩,
  ⟨Rect.unit (s := S2x2048x256) ![1, 768, 0] S1x128x256.size inb_S2x2048x256_S1x128x256_1_768_0, dq (View.readAt (Elt F) arg2.view (Rect.unit (s := S2x1024x256) ![1, 384, 0] S1x64x256.size inb_S2x1024x256_S1x64x256_1_384_0).toLoadRect X2) (View.readAt (Elt F) arg3.view (Rect.unit (s := S2x16x256) ![1, 6, 0] S1x1x256.size inb_S2x16x256_S1x1x256_1_6_0).toLoadRect X3)⟩,
  ⟨Rect.unit (s := S2x2048x256) ![1, 640, 0] S1x128x256.size inb_S2x2048x256_S1x128x256_1_640_0, dq (View.readAt (Elt F) arg2.view (Rect.unit (s := S2x1024x256) ![1, 320, 0] S1x64x256.size inb_S2x1024x256_S1x64x256_1_320_0).toLoadRect X2) (View.readAt (Elt F) arg3.view (Rect.unit (s := S2x16x256) ![1, 5, 0] S1x1x256.size inb_S2x16x256_S1x1x256_1_5_0).toLoadRect X3)⟩,
  ⟨Rect.unit (s := S2x2048x256) ![1, 512, 0] S1x128x256.size inb_S2x2048x256_S1x128x256_1_512_0, dq (View.readAt (Elt F) arg2.view (Rect.unit (s := S2x1024x256) ![1, 256, 0] S1x64x256.size inb_S2x1024x256_S1x64x256_1_256_0).toLoadRect X2) (View.readAt (Elt F) arg3.view (Rect.unit (s := S2x16x256) ![1, 4, 0] S1x1x256.size inb_S2x16x256_S1x1x256_1_4_0).toLoadRect X3)⟩,
  ⟨Rect.unit (s := S2x2048x256) ![1, 384, 0] S1x128x256.size inb_S2x2048x256_S1x128x256_1_384_0, dq (View.readAt (Elt F) arg2.view (Rect.unit (s := S2x1024x256) ![1, 192, 0] S1x64x256.size inb_S2x1024x256_S1x64x256_1_192_0).toLoadRect X2) (View.readAt (Elt F) arg3.view (Rect.unit (s := S2x16x256) ![1, 3, 0] S1x1x256.size inb_S2x16x256_S1x1x256_1_3_0).toLoadRect X3)⟩,
  ⟨Rect.unit (s := S2x2048x256) ![1, 256, 0] S1x128x256.size inb_S2x2048x256_S1x128x256_1_256_0, dq (View.readAt (Elt F) arg2.view (Rect.unit (s := S2x1024x256) ![1, 128, 0] S1x64x256.size inb_S2x1024x256_S1x64x256_1_128_0).toLoadRect X2) (View.readAt (Elt F) arg3.view (Rect.unit (s := S2x16x256) ![1, 2, 0] S1x1x256.size inb_S2x16x256_S1x1x256_1_2_0).toLoadRect X3)⟩,
  ⟨Rect.unit (s := S2x2048x256) ![1, 128, 0] S1x128x256.size inb_S2x2048x256_S1x128x256_1_128_0, dq (View.readAt (Elt F) arg2.view (Rect.unit (s := S2x1024x256) ![1, 64, 0] S1x64x256.size inb_S2x1024x256_S1x64x256_1_64_0).toLoadRect X2) (View.readAt (Elt F) arg3.view (Rect.unit (s := S2x16x256) ![1, 1, 0] S1x1x256.size inb_S2x16x256_S1x1x256_1_1_0).toLoadRect X3)⟩,
  ⟨Rect.unit (s := S2x2048x256) ![1, 0, 0] S1x128x256.size inb_S2x2048x256_S1x128x256_1_0_0, dq (View.readAt (Elt F) arg2.view (Rect.unit (s := S2x1024x256) ![1, 0, 0] S1x64x256.size inb_S2x1024x256_S1x64x256_1_0_0).toLoadRect X2) (View.readAt (Elt F) arg3.view (Rect.unit (s := S2x16x256) ![1, 0, 0] S1x1x256.size inb_S2x16x256_S1x1x256_1_0_0).toLoadRect X3)⟩,
  ⟨Rect.unit (s := S2x2048x256) ![0, 1920, 0] S1x128x256.size inb_S2x2048x256_S1x128x256_0_1920_0, dq (View.readAt (Elt F) arg2.view (Rect.unit (s := S2x1024x256) ![0, 960, 0] S1x64x256.size inb_S2x1024x256_S1x64x256_0_960_0).toLoadRect X2) (View.readAt (Elt F) arg3.view (Rect.unit (s := S2x16x256) ![0, 15, 0] S1x1x256.size inb_S2x16x256_S1x1x256_0_15_0).toLoadRect X3)⟩,
  ⟨Rect.unit (s := S2x2048x256) ![0, 1792, 0] S1x128x256.size inb_S2x2048x256_S1x128x256_0_1792_0, dq (View.readAt (Elt F) arg2.view (Rect.unit (s := S2x1024x256) ![0, 896, 0] S1x64x256.size inb_S2x1024x256_S1x64x256_0_896_0).toLoadRect X2) (View.readAt (Elt F) arg3.view (Rect.unit (s := S2x16x256) ![0, 14, 0] S1x1x256.size inb_S2x16x256_S1x1x256_0_14_0).toLoadRect X3)⟩,
  ⟨Rect.unit (s := S2x2048x256) ![0, 1664, 0] S1x128x256.size inb_S2x2048x256_S1x128x256_0_1664_0, dq (View.readAt (Elt F) arg2.view (Rect.unit (s := S2x1024x256) ![0, 832, 0] S1x64x256.size inb_S2x1024x256_S1x64x256_0_832_0).toLoadRect X2) (View.readAt (Elt F) arg3.view (Rect.unit (s := S2x16x256) ![0, 13, 0] S1x1x256.size inb_S2x16x256_S1x1x256_0_13_0).toLoadRect X3)⟩,
  ⟨Rect.unit (s := S2x2048x256) ![0, 1536, 0] S1x128x256.size inb_S2x2048x256_S1x128x256_0_1536_0, dq (View.readAt (Elt F) arg2.view (Rect.unit (s := S2x1024x256) ![0, 768, 0] S1x64x256.size inb_S2x1024x256_S1x64x256_0_768_0).toLoadRect X2) (View.readAt (Elt F) arg3.view (Rect.unit (s := S2x16x256) ![0, 12, 0] S1x1x256.size inb_S2x16x256_S1x1x256_0_12_0).toLoadRect X3)⟩,
  ⟨Rect.unit (s := S2x2048x256) ![0, 1408, 0] S1x128x256.size inb_S2x2048x256_S1x128x256_0_1408_0, dq (View.readAt (Elt F) arg2.view (Rect.unit (s := S2x1024x256) ![0, 704, 0] S1x64x256.size inb_S2x1024x256_S1x64x256_0_704_0).toLoadRect X2) (View.readAt (Elt F) arg3.view (Rect.unit (s := S2x16x256) ![0, 11, 0] S1x1x256.size inb_S2x16x256_S1x1x256_0_11_0).toLoadRect X3)⟩,
  ⟨Rect.unit (s := S2x2048x256) ![0, 1280, 0] S1x128x256.size inb_S2x2048x256_S1x128x256_0_1280_0, dq (View.readAt (Elt F) arg2.view (Rect.unit (s := S2x1024x256) ![0, 640, 0] S1x64x256.size inb_S2x1024x256_S1x64x256_0_640_0).toLoadRect X2) (View.readAt (Elt F) arg3.view (Rect.unit (s := S2x16x256) ![0, 10, 0] S1x1x256.size inb_S2x16x256_S1x1x256_0_10_0).toLoadRect X3)⟩,
  ⟨Rect.unit (s := S2x2048x256) ![0, 1152, 0] S1x128x256.size inb_S2x2048x256_S1x128x256_0_1152_0, dq (View.readAt (Elt F) arg2.view (Rect.unit (s := S2x1024x256) ![0, 576, 0] S1x64x256.size inb_S2x1024x256_S1x64x256_0_576_0).toLoadRect X2) (View.readAt (Elt F) arg3.view (Rect.unit (s := S2x16x256) ![0, 9, 0] S1x1x256.size inb_S2x16x256_S1x1x256_0_9_0).toLoadRect X3)⟩,
  ⟨Rect.unit (s := S2x2048x256) ![0, 1024, 0] S1x128x256.size inb_S2x2048x256_S1x128x256_0_1024_0, dq (View.readAt (Elt F) arg2.view (Rect.unit (s := S2x1024x256) ![0, 512, 0] S1x64x256.size inb_S2x1024x256_S1x64x256_0_512_0).toLoadRect X2) (View.readAt (Elt F) arg3.view (Rect.unit (s := S2x16x256) ![0, 8, 0] S1x1x256.size inb_S2x16x256_S1x1x256_0_8_0).toLoadRect X3)⟩,
  ⟨Rect.unit (s := S2x2048x256) ![0, 896, 0] S1x128x256.size inb_S2x2048x256_S1x128x256_0_896_0, dq (View.readAt (Elt F) arg2.view (Rect.unit (s := S2x1024x256) ![0, 448, 0] S1x64x256.size inb_S2x1024x256_S1x64x256_0_448_0).toLoadRect X2) (View.readAt (Elt F) arg3.view (Rect.unit (s := S2x16x256) ![0, 7, 0] S1x1x256.size inb_S2x16x256_S1x1x256_0_7_0).toLoadRect X3)⟩,
  ⟨Rect.unit (s := S2x2048x256) ![0, 768, 0] S1x128x256.size inb_S2x2048x256_S1x128x256_0_768_0, dq (View.readAt (Elt F) arg2.view (Rect.unit (s := S2x1024x256) ![0, 384, 0] S1x64x256.size inb_S2x1024x256_S1x64x256_0_384_0).toLoadRect X2) (View.readAt (Elt F) arg3.view (Rect.unit (s := S2x16x256) ![0, 6, 0] S1x1x256.size inb_S2x16x256_S1x1x256_0_6_0).toLoadRect X3)⟩,
  ⟨Rect.unit (s := S2x2048x256) ![0, 640, 0] S1x128x256.size inb_S2x2048x256_S1x128x256_0_640_0, dq (View.readAt (Elt F) arg2.view (Rect.unit (s := S2x1024x256) ![0, 320, 0] S1x64x256.size inb_S2x1024x256_S1x64x256_0_320_0).toLoadRect X2) (View.readAt (Elt F) arg3.view (Rect.unit (s := S2x16x256) ![0, 5, 0] S1x1x256.size inb_S2x16x256_S1x1x256_0_5_0).toLoadRect X3)⟩,
  ⟨Rect.unit (s := S2x2048x256) ![0, 512, 0] S1x128x256.size inb_S2x2048x256_S1x128x256_0_512_0, dq (View.readAt (Elt F) arg2.view (Rect.unit (s := S2x1024x256) ![0, 256, 0] S1x64x256.size inb_S2x1024x256_S1x64x256_0_256_0).toLoadRect X2) (View.readAt (Elt F) arg3.view (Rect.unit (s := S2x16x256) ![0, 4, 0] S1x1x256.size inb_S2x16x256_S1x1x256_0_4_0).toLoadRect X3)⟩,
  ⟨Rect.unit (s := S2x2048x256) ![0, 384, 0] S1x128x256.size inb_S2x2048x256_S1x128x256_0_384_0, dq (View.readAt (Elt F) arg2.view (Rect.unit (s := S2x1024x256) ![0, 192, 0] S1x64x256.size inb_S2x1024x256_S1x64x256_0_192_0).toLoadRect X2) (View.readAt (Elt F) arg3.view (Rect.unit (s := S2x16x256) ![0, 3, 0] S1x1x256.size inb_S2x16x256_S1x1x256_0_3_0).toLoadRect X3)⟩,
  ⟨Rect.unit (s := S2x2048x256) ![0, 256, 0] S1x128x256.size inb_S2x2048x256_S1x128x256_0_256_0, dq (View.readAt (Elt F) arg2.view (Rect.unit (s := S2x1024x256) ![0, 128, 0] S1x64x256.size inb_S2x1024x256_S1x64x256_0_128_0).toLoadRect X2) (View.readAt (Elt F) arg3.view (Rect.unit (s := S2x16x256) ![0, 2, 0] S1x1x256.size inb_S2x16x256_S1x1x256_0_2_0).toLoadRect X3)⟩,
  ⟨Rect.unit (s := S2x2048x256) ![0, 128, 0] S1x128x256.size inb_S2x2048x256_S1x128x256_0_128_0, dq (View.readAt (Elt F) arg2.view (Rect.unit (s := S2x1024x256) ![0, 64, 0] S1x64x256.size inb_S2x1024x256_S1x64x256_0_64_0).toLoadRect X2) (View.readAt (Elt F) arg3.view (Rect.unit (s := S2x16x256) ![0, 1, 0] S1x1x256.size inb_S2x16x256_S1x1x256_0_1_0).toLoadRect X3)⟩,
  ⟨Rect.unit (s := S2x2048x256) ![0, 0, 0] S1x128x256.size inb_S2x2048x256_S1x128x256_0_0_0, dq (View.readAt (Elt F) arg2.view (Rect.unit (s := S2x1024x256) ![0, 0, 0] S1x64x256.size inb_S2x1024x256_S1x64x256_0_0_0).toLoadRect X2) (View.readAt (Elt F) arg3.view (Rect.unit (s := S2x16x256) ![0, 0, 0] S1x1x256.size inb_S2x16x256_S1x1x256_0_0_0).toLoadRect X3)⟩]

theorem dq_piece (arg2 : Memref sig .tc .vmem S2x1024x256 .i8) (X2 : BufTy.Contents (Elt F) arg2.view.ty) (arg3 : Memref sig .tc .vmem S2x16x256 .f32)
    (X3 : BufTy.Contents (Elt F) arg3.view.ty) (b : Fin 2) (g : Fin 16) {o2 o3 o12 : Fin 3 → ℕ} (h2 : o2 = ![b.val, 64 * g.val, 0])
    (h3 : o3 = ![b.val, g.val, 0]) (h12 : o12 = ![b.val, 128 * g.val, 0]) (i2 : ∀ a, o2 a + S1x64x256.size a ≤ S2x1024x256.size a)
    (i3 : ∀ a, o3 a + S1x1x256.size a ≤ S2x16x256.size a) (i12 : ∀ a, o12 a + S1x128x256.size a ≤ S2x2048x256.size a) (x : S1x128x256.Idx) :
    dq (View.readAt (Elt F) arg2.view (Rect.unit (s := S2x1024x256) o2 S1x64x256.size i2).toLoadRect X2)
      (View.readAt (Elt F) arg3.view (Rect.unit (s := S2x16x256) o3 S1x1x256.size i3).toLoadRect X3) x
      = wbT (arg2.view.read (Elt F) X2) (arg3.view.read (Elt F) X3) ((Rect.unit (s := S2x2048x256) o12 S1x128x256.size i12).emb x) := by
  subst h2 h3 h12
  have eW : View.readAt (Elt F) arg2.view (Rect.unit (s := S2x1024x256) ![b.val, 64 * g.val, 0] S1x64x256.size i2).toLoadRect X2 = slabW (arg2.view.read (Elt F) X2) b g := by
    funext y
    refine congrArg (arg2.view.read (Elt F) X2) (funext fun a => Fin.ext ?_)
    have h0 : (y 0).val = 0 := by have := (y 0).isLt; have : (y 0).val < 1 := this; omega
    fin_cases a
    · show b.val + 1 * (y 0).val = b.val; omega
    · show 64 * g.val + 1 * (y 1).val = 64 * g.val + (y 1).val; omega
    · show 0 + 1 * (y 2).val = (y 2).val; omega
  have eS : View.readAt (Elt F) arg3.view (Rect.unit (s := S2x16x256) ![b.val, g.val, 0] S1x1x256.size i3).toLoadRect X3 = slabS (arg3.view.read (Elt F) X3) b g := by
    funext y
    refine congrArg (arg3.view.read (Elt F) X3) (funext fun a => Fin.ext ?_)
    have h0 : (y 0).val = 0 := by have := (y 0).isLt; have : (y 0).val < 1 := this; omega
    have h1 : (y 1).val = 0 := by have := (y 1).isLt; have : (y 1).val < 1 := this; omega
    fin_cases a
    · show b.val + 1 * (y 0).val = b.val; omega
    · show g.val + 1 * (y 1).val = g.val; omega
    · show 0 + 1 * (y 2).val = (y 2).val; omega
  rw [eW, eS]
  have hx0 : (x 0).val = 0 := by have := (x 0).isLt; have : (x 0).val < 1 := this; omega
  have hx1 : (x 1).val < 128 := (x 1).isLt
  generalize hy : (Rect.unit (s := S2x2048x256) ![b.val, 128 * g.val, 0] S1x128x256.size i12).emb x = y
  have y0 : y 0 = b := by subst hy; exact Fin.ext (by show b.val + 1 * (x 0).val = b.val; omega)
  have y1 : (y 1).val = 128 * g.val + (x 1).val := by subst hy; show 128 * g.val + 1 * (x 1).val = _; omega
  have y2 : y 2 = x 2 := by subst hy; exact Fin.ext (by show 0 + 1 * (x 2).val = _; omega)
  unfold wbT
  rw [y0, y2, cg_of (n := 16) (g := g) hx1 y1, cl_of (n := 16) (x := ⟨(x 1).val, hx1⟩) y1]
  refine congrArg _ (funext fun a => Fin.ext ?_)
  fin_cases a
  · exact hx0
  · rfl
  · rfl

theorem wb_read (arg12 : Memref sig .tc .vmem S2x2048x256 .bf16) (f : BufTy.Contents (Elt F) arg12.view.ty)
    (arg2 : Memref sig .tc .vmem S2x1024x256 .i8) (X2 : BufTy.Contents (Elt F) arg2.view.ty) (arg3 : Memref sig .tc .vmem S2x16x256 .f32)
    (X3 : BufTy.Contents (Elt F) arg3.view.ty) :
    arg12.view.read (Elt F) (arg12.view.writes (Elt F) f (wbL arg2 X2 arg3 X3)) = wbT (arg2.view.read (Elt F) X2) (arg3.view.read (Elt F) X3) := by
  funext y
  refine View.read_writes_apply_of_pieces _ _ _ _ ?_ y ?_
  · unfold wbL
    simp only [List.forall_mem_cons]
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, by simp⟩
    · exact dq_piece arg2 X2 arg3 X3 1 ⟨15, by decide⟩ rfl rfl rfl _ _ _ x
    · exact dq_piece arg2 X2 arg3 X3 1 ⟨14, by decide⟩ rfl rfl rfl _ _ _ x
    · exact dq_piece arg2 X2 arg3 X3 1 ⟨13, by decide⟩ rfl rfl rfl _ _ _ x
    · exact dq_piece arg2 X2 arg3 X3 1 ⟨12, by decide⟩ rfl rfl rfl _ _ _ x
    · exact dq_piece arg2 X2 arg3 X3 1 ⟨11, by decide⟩ rfl rfl rfl _ _ _ x
    · exact dq_piece arg2 X2 arg3 X3 1 ⟨10, by decide⟩ rfl rfl rfl _ _ _ x
    · exact dq_piece arg2 X2 arg3 X3 1 ⟨9, by decide⟩ rfl rfl rfl _ _ _ x
    · exact dq_piece arg2 X2 arg3 X3 1 ⟨8, by decide⟩ rfl rfl rfl _ _ _ x
    · exact dq_piece arg2 X2 arg3 X3 1 ⟨7, by decide⟩ rfl rfl rfl _ _ _ x
    · exact dq_piece arg2 X2 arg3 X3 1 ⟨6, by decide⟩ rfl rfl rfl _ _ _ x
    · exact dq_piece arg2 X2 arg3 X3 1 ⟨5, by decide⟩ rfl rfl rfl _ _ _ x
    · exact dq_piece arg2 X2 arg3 X3 1 ⟨4, by decide⟩ rfl rfl rfl _ _ _ x
    · exact dq_piece arg2 X2 arg3 X3 1 ⟨3, by decide⟩ rfl rfl rfl _ _ _ x
    · exact dq_piece arg2 X2 arg3 X3 1 ⟨2, by decide⟩ rfl rfl rfl _ _ _ x
    · exact dq_piece arg2 X2 arg3 X3 1 ⟨1, by decide⟩ rfl rfl rfl _ _ _ x
    · exact dq_piece arg2 X2 arg3 X3 1 ⟨0, by decide⟩ rfl rfl rfl _ _ _ x
    · exact dq_piece arg2 X2 arg3 X3 0 ⟨15, by decide⟩ rfl rfl rfl _ _ _ x
    · exact dq_piece arg2 X2 arg3 X3 0 ⟨14, by decide⟩ rfl rfl rfl _ _ _ x
    · exact dq_piece arg2 X2 arg3 X3 0 ⟨13, by decide⟩ rfl rfl rfl _ _ _ x
    · exact dq_piece arg2 X2 arg3 X3 0 ⟨12, by decide⟩ rfl rfl rfl _ _ _ x
    · exact dq_piece arg2 X2 arg3 X3 0 ⟨11, by decide⟩ rfl rfl rfl _ _ _ x
    · exact dq_piece arg2 X2 arg3 X3 0 ⟨10, by decide⟩ rfl rfl rfl _ _ _ x
    · exact dq_piece arg2 X2 arg3 X3 0 ⟨9, by decide⟩ rfl rfl rfl _ _ _ x
    · exact dq_piece arg2 X2 arg3 X3 0 ⟨8, by decide⟩ rfl rfl rfl _ _ _ x
    · exact dq_piece arg2 X2 arg3 X3 0 ⟨7, by decide⟩ rfl rfl rfl _ _ _ x
    · exact dq_piece arg2 X2 arg3 X3 0 ⟨6, by decide⟩ rfl rfl rfl _ _ _ x
    · exact dq_piece arg2 X2 arg3 X3 0 ⟨5, by decide⟩ rfl rfl rfl _ _ _ x
    · exact dq_piece arg2 X2 arg3 X3 0 ⟨4, by decide⟩ rfl rfl rfl _ _ _ x
    · exact dq_piece arg2 X2 arg3 X3 0 ⟨3, by decide⟩ rfl rfl rfl _ _ _ x
    · exact dq_piece arg2 X2 arg3 X3 0 ⟨2, by decide⟩ rfl rfl rfl _ _ _ x
    · exact dq_piece arg2 X2 arg3 X3 0 ⟨1, by decide⟩ rfl rfl rfl _ _ _ x
    · exact dq_piece arg2 X2 arg3 X3 0 ⟨0, by decide⟩ rfl rfl rfl _ _ _ x
  · obtain ⟨b, hb⟩ : ∃ b : Fin 2, y 0 = b := ⟨y 0, rfl⟩
    obtain ⟨g, hg⟩ : ∃ g : Fin 16, (y 1).val / 128 = g.val := ⟨cg (n := 16) (y 1), rfl⟩
    have hy2 : (y 2).val < 256 := (y 2).isLt
    have hmem : ∀ (bb gg : ℕ) (i : ∀ a, (![bb, 128 * gg, 0] : Fin 3 → ℕ) a + S1x128x256.size a ≤ S2x2048x256.size a), (y 0).val = bb → (y 1).val / 128 = gg →
        y ∈ (Rect.unit (s := S2x2048x256) ![bb, 128 * gg, 0] S1x128x256.size i).set := by
      intro bb gg i e0 e1
      rw [Rect.mem_set_unit]
      intro a
      fin_cases a
      · show bb ≤ (y 0).val ∧ (y 0).val < bb + 1; omega
      · show 128 * gg ≤ (y 1).val ∧ (y 1).val < 128 * gg + 128; omega
      · show 0 ≤ (y 2).val ∧ (y 2).val < 0 + 256; omega
    have hb' : (y 0).val = b.val := congrArg Fin.val hb
    fin_cases b <;> fin_cases g
    · refine ⟨_, List.mem_of_getElem? (i := 31) rfl, ?_⟩
      exact hmem 0 0 inb_S2x2048x256_S1x128x256_0_0_0 hb' hg
    · refine ⟨_, List.mem_of_getElem? (i := 30) rfl, ?_⟩
      exact hmem 0 1 inb_S2x2048x256_S1x128x256_0_128_0 hb' hg
    · refine ⟨_, List.mem_of_getElem? (i := 29) rfl, ?_⟩
      exact hmem 0 2 inb_S2x2048x256_S1x128x256_0_256_0 hb' hg
    · refine ⟨_, List.mem_of_getElem? (i := 28) rfl, ?_⟩
      exact hmem 0 3 inb_S2x2048x256_S1x128x256_0_384_0 hb' hg
    · refine ⟨_, List.mem_of_getElem? (i := 27) rfl, ?_⟩
      exact hmem 0 4 inb_S2x2048x256_S1x128x256_0_512_0 hb' hg
    · refine ⟨_, List.mem_of_getElem? (i := 26) rfl, ?_⟩
      exact hmem 0 5 inb_S2x2048x256_S1x128x256_0_640_0 hb' hg
    · refine ⟨_, List.mem_of_getElem? (i := 25) rfl, ?_⟩
      exact hmem 0 6 inb_S2x2048x256_S1x128x256_0_768_0 hb' hg
    · refine ⟨_, List.mem_of_getElem? (i := 24) rfl, ?_⟩
      exact hmem 0 7 inb_S2x2048x256_S1x128x256_0_896_0 hb' hg
    · refine ⟨_, List.mem_of_getElem? (i := 23) rfl, ?_⟩
      exact hmem 0 8 inb_S2x2048x256_S1x128x256_0_1024_0 hb' hg
    · refine ⟨_, List.mem_of_getElem? (i := 22) rfl, ?_⟩
      exact hmem 0 9 inb_S2x2048x256_S1x128x256_0_1152_0 hb' hg
    · refine ⟨_, List.mem_of_getElem? (i := 21) rfl, ?_⟩
      exact hmem 0 10 inb_S2x2048x256_S1x128x256_0_1280_0 hb' hg
    · refine ⟨_, List.mem_of_getElem? (i := 20) rfl, ?_⟩
      exact hmem 0 11 inb_S2x2048x256_S1x128x256_0_1408_0 hb' hg
    · refine ⟨_, List.mem_of_getElem? (i := 19) rfl, ?_⟩
      exact hmem 0 12 inb_S2x2048x256_S1x128x256_0_1536_0 hb' hg
    · refine ⟨_, List.mem_of_getElem? (i := 18) rfl, ?_⟩
      exact hmem 0 13 inb_S2x2048x256_S1x128x256_0_1664_0 hb' hg
    · refine ⟨_, List.mem_of_getElem? (i := 17) rfl, ?_⟩
      exact hmem 0 14 inb_S2x2048x256_S1x128x256_0_1792_0 hb' hg
    · refine ⟨_, List.mem_of_getElem? (i := 16) rfl, ?_⟩
      exact hmem 0 15 inb_S2x2048x256_S1x128x256_0_1920_0 hb' hg
    · refine ⟨_, List.mem_of_getElem? (i := 15) rfl, ?_⟩
      exact hmem 1 0 inb_S2x2048x256_S1x128x256_1_0_0 hb' hg
    · refine ⟨_, List.mem_of_getElem? (i := 14) rfl, ?_⟩
      exact hmem 1 1 inb_S2x2048x256_S1x128x256_1_128_0 hb' hg
    · refine ⟨_, List.mem_of_getElem? (i := 13) rfl, ?_⟩
      exact hmem 1 2 inb_S2x2048x256_S1x128x256_1_256_0 hb' hg
    · refine ⟨_, List.mem_of_getElem? (i := 12) rfl, ?_⟩
      exact hmem 1 3 inb_S2x2048x256_S1x128x256_1_384_0 hb' hg
    · refine ⟨_, List.mem_of_getElem? (i := 11) rfl, ?_⟩
      exact hmem 1 4 inb_S2x2048x256_S1x128x256_1_512_0 hb' hg
    · refine ⟨_, List.mem_of_getElem? (i := 10) rfl, ?_⟩
      exact hmem 1 5 inb_S2x2048x256_S1x128x256_1_640_0 hb' hg
    · refine ⟨_, List.mem_of_getElem? (i := 9) rfl, ?_⟩
      exact hmem 1 6 inb_S2x2048x256_S1x128x256_1_768_0 hb' hg
    · refine ⟨_, List.mem_of_getElem? (i := 8) rfl, ?_⟩
      exact hmem 1 7 inb_S2x2048x256_S1x128x256_1_896_0 hb' hg
    · refine ⟨_, List.mem_of_getElem? (i := 7) rfl, ?_⟩
      exact hmem 1 8 inb_S2x2048x256_S1x128x256_1_1024_0 hb' hg
    · refine ⟨_, List.mem_of_getElem? (i := 6) rfl, ?_⟩
      exact hmem 1 9 inb_S2x2048x256_S1x128x256_1_1152_0 hb' hg
    · refine ⟨_, List.mem_of_getElem? (i := 5) rfl, ?_⟩
      exact hmem 1 10 inb_S2x2048x256_S1x128x256_1_1280_0 hb' hg
    · refine ⟨_, List.mem_of_getElem? (i := 4) rfl, ?_⟩
      exact hmem 1 11 inb_S2x2048x256_S1x128x256_1_1408_0 hb' hg
    · refine ⟨_, List.mem_of_getElem? (i := 3) rfl, ?_⟩
      exact hmem 1 12 inb_S2x2048x256_S1x128x256_1_1536_0 hb' hg
    · refine ⟨_, List.mem_of_getElem? (i := 2) rfl, ?_⟩
      exact hmem 1 13 inb_S2x2048x256_S1x128x256_1_1664_0 hb' hg
    · refine ⟨_, List.mem_of_getElem? (i := 1) rfl, ?_⟩
      exact hmem 1 14 inb_S2x2048x256_S1x128x256_1_1792_0 hb' hg
    · refine ⟨_, List.mem_of_getElem? (i := 0) rfl, ?_⟩
      exact hmem 1 15 inb_S2x2048x256_S1x128x256_1_1920_0 hb' hg

/-- The products as the two stores leave them. -/
theorem t_read (arg13 : Memref sig .tc .vmem S2x768x256 .f32) (f : BufTy.Contents (Elt F) arg13.view.ty) (A : Vec F S768x2048 .bf16)
    (arg12 : Memref sig .tc .vmem S2x2048x256 .bf16) (Y : BufTy.Contents (Elt F) arg12.view.ty) :
    arg13.view.read (Elt F) (arg13.view.writes (Elt F) f [
      ⟨Rect.unit (s := S2x768x256) ![1, 0, 0] S1x768x256.size inb_S2x768x256_S1x768x256_1_0_0,
        k0_pay2 A (View.readAt (Elt F) arg12.view (Rect.unit (s := S2x2048x256) ![1, 0, 0] S1x2048x256.size inb_S2x2048x256_S1x2048x256_1_0_0).toLoadRect Y)⟩,
      ⟨Rect.unit (s := S2x768x256) ![0, 0, 0] S1x768x256.size inb_S2x768x256_S1x768x256_0_0_0,
        k0_pay1 A (View.readAt (Elt F) arg12.view (Rect.unit (s := S2x2048x256) ![0, 0, 0] S1x2048x256.size inb_S2x2048x256_S1x2048x256_0_0_0).toLoadRect Y)⟩])
      = tT A (arg12.view.read (Elt F) Y) := by
  have e : ∀ (b : Fin 2) (i : ∀ a, (![b.val, 0, 0] : Fin 3 → ℕ) a + S1x2048x256.size a ≤ S2x2048x256.size a),
      View.readAt (Elt F) arg12.view (Rect.unit (s := S2x2048x256) ![b.val, 0, 0] S1x2048x256.size i).toLoadRect Y
        = (fun z : S1x2048x256.Idx => arg12.view.read (Elt F) Y (ix3 b (z 1) (z 2))) := by
    intro b i
    funext z
    refine congrArg (arg12.view.read (Elt F) Y) (funext fun a => Fin.ext ?_)
    have h0 : (z 0).val = 0 := by have := (z 0).isLt; have : (z 0).val < 1 := this; omega
    fin_cases a
    · show b.val + 1 * (z 0).val = b.val; omega
    · show 0 + 1 * (z 1).val = (z 1).val; omega
    · show 0 + 1 * (z 2).val = (z 2).val; omega
  funext y
  have key : ∀ (b : Fin 2) (i : ∀ a, (![b.val, 0, 0] : Fin 3 → ℕ) a + S1x2048x256.size a ≤ S2x2048x256.size a)
      (j : ∀ a, (![b.val, 0, 0] : Fin 3 → ℕ) a + S1x768x256.size a ≤ S2x768x256.size a) (x : S1x768x256.Idx),
      k0_pay1 A (View.readAt (Elt F) arg12.view (Rect.unit (s := S2x2048x256) ![b.val, 0, 0] S1x2048x256.size i).toLoadRect Y) x
        = tT A (arg12.view.read (Elt F) Y) ((Rect.unit (s := S2x768x256) ![b.val, 0, 0] S1x768x256.size j).emb x) := by
    intro b i j x
    rw [e]
    have hx0 : (x 0).val = 0 := by have := (x 0).isLt; have : (x 0).val < 1 := this; omega
    generalize hy : (Rect.unit (s := S2x768x256) ![b.val, 0, 0] S1x768x256.size j).emb x = y
    have y0 : y 0 = b := by subst hy; exact Fin.ext (by show b.val + 1 * (x 0).val = b.val; omega)
    have y1 : y 1 = x 1 := by subst hy; exact Fin.ext (by show 0 + 1 * (x 1).val = _; omega)
    have y2 : y 2 = x 2 := by subst hy; exact Fin.ext (by show 0 + 1 * (x 2).val = _; omega)
    unfold tT
    rw [y0, y1, y2]
    refine congrArg _ (funext fun a => Fin.ext ?_)
    fin_cases a
    · exact hx0
    · rfl
    · rfl
  refine View.read_writes_apply_of_pieces _ _ _ _ ?_ y ?_
  · simp only [List.forall_mem_cons]
    exact ⟨fun x => key 1 _ _ x, fun x => key 0 _ _ x, by simp⟩
  · have hy1 : (y 1).val < 768 := (y 1).isLt
    have hy2 : (y 2).val < 256 := (y 2).isLt
    obtain ⟨b, hb⟩ : ∃ b : Fin 2, y 0 = b := ⟨y 0, rfl⟩
    have hb' : (y 0).val = b.val := congrArg Fin.val hb
    have hmem : ∀ (bb : ℕ) (i : ∀ a, (![bb, 0, 0] : Fin 3 → ℕ) a + S1x768x256.size a ≤ S2x768x256.size a), (y 0).val = bb →
        y ∈ (Rect.unit (s := S2x768x256) ![bb, 0, 0] S1x768x256.size i).set := by
      intro bb i e0
      rw [Rect.mem_set_unit]
      intro a
      fin_cases a
      · show bb ≤ (y 0).val ∧ (y 0).val < bb + 1; omega
      · show 0 ≤ (y 1).val ∧ (y 1).val < 0 + 768; omega
      · show 0 ≤ (y 2).val ∧ (y 2).val < 0 + 256; omega
    fin_cases b
    · refine ⟨_, List.mem_of_getElem? (i := 1) rfl, ?_⟩
      exact hmem 0 inb_S2x768x256_S1x768x256_0_0_0 hb'
    · refine ⟨_, List.mem_of_getElem? (i := 0) rfl, ?_⟩
      exact hmem 1 inb_S2x768x256_S1x768x256_1_0_0 hb'

/-- A load of the whole of a buffer is its contents. -/
theorem readAt_whole2 {s : Shape} {e : EltTy} (hs : s.rank = 2) (v : Memref sig .tc .vmem s e) (X : BufTy.Contents (Elt F) v.view.ty) {o : Fin s.rank → ℕ}
    (ho : ∀ a, o a = 0) (i : ∀ a, o a + s.size a ≤ s.size a) : View.readAt (Elt F) v.view (Rect.unit (s := s) o s.size i).toLoadRect X = v.view.read (Elt F) X := by
  funext y
  refine congrArg (v.view.read (Elt F) X) (funext fun a => Fin.ext ?_)
  show o a + 1 * (y a).val = (y a).val
  rw [ho a]; omega

/-- The products a grid point leaves, from its two blocks of weights and the quantised activations. -/
theorem prod_read (arg2 : Memref sig .tc .vmem S2x1024x256 .i8) (X2 : BufTy.Contents (Elt F) arg2.view.ty) (arg3 : Memref sig .tc .vmem S2x16x256 .f32)
    (X3 : BufTy.Contents (Elt F) arg3.view.ty) (arg11 : Memref sig .tc .vmem S768x2048 .bf16) (X11 : BufTy.Contents (Elt F) arg11.view.ty)
    (arg12 : Memref sig .tc .vmem S2x2048x256 .bf16) (arg13 : Memref sig .tc .vmem S2x768x256 .f32) (f : BufTy.Contents (Elt F) arg12.view.ty)
    (g : BufTy.Contents (Elt F) arg13.view.ty) {x1 : Vec F S2x1024x256 .i8} {x2 : Vec F S2x16x256 .f32} {a : Vec F S768x2048 .bf16}
    (h1 : arg2.view.read (Elt F) X2 = x1) (h2 : arg3.view.read (Elt F) X3 = x2) (h11 : arg11.view.read (Elt F) X11 = a) :
    arg13.view.read (Elt F) (arg13.view.writes (Elt F) g [
      ⟨Rect.unit (s := S2x768x256) ![1, 0, 0] S1x768x256.size inb_S2x768x256_S1x768x256_1_0_0,
        k0_pay2 (View.readAt (Elt F) arg11.view (Rect.unit (s := S768x2048) ![0, 0] S768x2048.size inb_S768x2048_S768x2048_0_0).toLoadRect X11)
          (View.readAt (Elt F) arg12.view (Rect.unit (s := S2x2048x256) ![1, 0, 0] S1x2048x256.size inb_S2x2048x256_S1x2048x256_1_0_0).toLoadRect
            (arg12.view.writes (Elt F) f (wbL arg2 X2 arg3 X3)))⟩,
      ⟨Rect.unit (s := S2x768x256) ![0, 0, 0] S1x768x256.size inb_S2x768x256_S1x768x256_0_0_0,
        k0_pay1 (View.readAt (Elt F) arg11.view (Rect.unit (s := S768x2048) ![0, 0] S768x2048.size inb_S768x2048_S768x2048_0_0).toLoadRect X11)
          (View.readAt (Elt F) arg12.view (Rect.unit (s := S2x2048x256) ![0, 0, 0] S1x2048x256.size inb_S2x2048x256_S1x2048x256_0_0_0).toLoadRect
            (arg12.view.writes (Elt F) f (wbL arg2 X2 arg3 X3)))⟩])
      = tT a (wbT x1 x2) := by
  subst h1 h2 h11
  rw [readAt_whole2 rfl arg11 X11 (by intro a; fin_cases a <;> rfl)]
  exact (t_read arg13 g _ arg12 _).trans (congrArg _ (wb_read arg12 f arg2 X2 arg3 X3))

/-- A store of the whole of a buffer is what it then holds. -/
theorem read_write_whole2 {s : Shape} {e : EltTy} (v : Memref sig .tc .vmem s e) (f : BufTy.Contents (Elt F) v.view.ty) {o : Fin s.rank → ℕ}
    (ho : ∀ a, o a = 0) (i : ∀ a, o a + s.size a ≤ s.size a) (w : Vec F s e) :
    v.view.read (Elt F) (v.view.writes (Elt F) f [⟨Rect.unit (s := s) o s.size i, w⟩]) = w := by
  have he : ∀ x : s.Idx, (Rect.unit (s := s) o s.size i).emb x = x := by
    intro x; funext a; refine Fin.ext ?_; show o a + 1 * (x a).val = (x a).val; rw [ho a]; omega
  funext y
  refine View.read_writes_apply_of_pieces _ _ _ _ ?_ y ?_
  · simp only [List.forall_mem_cons]
    exact ⟨fun x => congrArg w (he x).symm, by simp⟩
  · refine ⟨_, List.mem_of_getElem? (i := 0) rfl, ?_⟩
    rw [Rect.mem_set_unit]
    intro a
    have := (y a).isLt
    rw [ho a]; omega

end Cert.KernelIdeal.Val

end
-- ==== Proof.Ideal.Runs.lean ====
/- The kernel over the extended reals: what memory holds when the grid starts, the blocks the windows read, the condition of the
   body's one conditional and the names of the staging and scratch buffers. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the grid -/

/-- What the buffers hold when the grid starts: the host operations have run. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the grid: the host operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the grid writes `main_arg0`: the grid finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the grid writes `main_arg1`: the grid finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the grid writes `main_arg2`: the grid finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether or not it was fetched there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether or not it was fetched there. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether or not it was fetched there. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments unchanged -/

/-- The arguments are unchanged, from a run of the grid whose arrays are what the grid finds. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The condition of the body's one conditional, from the grid coordinates. -/
abbrev cond0_0 (i : grid0.Coords) : Prop := k0_cond1 i = 1#1
/-- It holds at the first point only. -/
theorem hcond0_0 : ∀ t : Fin cfg0.N, cond0_0 (grid0.coords t) ↔ t.val % 22 = 0 :=
  (fun t => by
    have ht : t.val < 22 := Nat.lt_of_lt_of_eq t.isLt N_0
    have e0 : (grid0.coords t 0).val = t.val / 1 % 22 := Pipeline.Grid.coords_val t 0 (by decide) rfl
    simp only [cond0_0, k0_cond1, e0]
    word_cmp
   : ∀ t : Fin grid0.N, cond0_0 (grid0.coords t) ↔ t.val % 22 = 0)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The buffers the body is given -/

/-- Each window's staging buffer at point `t`, and that it is a whole buffer. -/
abbrev ms0_0 (t : Fin cfg0.N) : Memref sig .tc .vmem S768x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x16x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x16 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x44 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768x44 .i8 := win0_9.stage (cfg0.slots t 9)
abbrev hs0_9 (t : Fin cfg0.N) : (ms0_9 t).IsWhole := hstage0_9 ((cfg0.slots t 9).cast nbuf0_9)
/-- The scratch buffers. -/
abbrev scM0_0 : Memref sig .tc .vmem S768x2048 .bf16 := Memref.whole cc0_scratch0
abbrev scM0_1 : Memref sig .tc .vmem S2x2048x256 .bf16 := Memref.whole cc0_scratch1
abbrev scM0_2 : Memref sig .tc .vmem S2x768x256 .f32 := Memref.whole cc0_scratch2
/-- The scratch buffer that keeps its contents between points. -/
abbrev VS0_0 : View sig .tc .vmem S768x2048 .bf16 := scM0_0.view

/-- What holds between points, with the scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Value.BodyA.lean ====
/- The kernel's body at the first grid point, with what it leaves in each buffer. -/
module

public import proofs.«01_k».proof.Proof.Value.Deq
public import proofs.«01_k».proof.Proof.Ideal.Runs

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The accumulated scales before any group. -/
def zero9 : Vec F S768x44 .f32 := broadcast S768x44 (FloatOps.ofBits .f32 0x00000000#32)

/-- The accumulated zero points before any group. -/
def zero10 : Vec F S768x44 .i8 := broadcast S768x44 0#8

set_option maxHeartbeats 4000000 in
/-- The body's triple. -/
theorem body_A (c : Dev nD) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (hc0 : cond0_0 i) (hj : (i 0).val < 22)
    (x0 : Vec F S768x2048 .bf16) (x1 : Vec F S2x1024x256 .i8) (x2 : Vec F S2x16x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg1 fullShare x0 ∗ owns (c : Thread nD τ) arg2 fullShare x1 ∗ owns (c : Thread nD τ) arg3 fullShare x2 ∗ owns (c : Thread nD τ) arg4 fullShare (hT (tT (aT x0) (wbT x1 x2))) ∗ owns (c : Thread nD τ) arg5 fullShare (acT x0) ∗ owns (c : Thread nD τ) arg6 fullShare (asT x0) ∗ owns (c : Thread nD τ) arg7 fullShare (azT x0) ∗ owns (c : Thread nD τ) arg8 fullShare (hcT (tT (aT x0) (wbT x1 x2))) ∗ owns (c : Thread nD τ) arg9 fullShare (hsT (i 0).val (tT (aT x0) (wbT x1 x2)) zero9) ∗ owns (c : Thread nD τ) arg10 fullShare (hzT (i 0).val (tT (aT x0) (wbT x1 x2)) zero10) ∗ owns (c : Thread nD τ) arg11 fullShare (aT x0) ∗ (∃ d, owns (c : Thread nD τ) arg12 fullShare d) ∗ (∃ d, owns (c : Thread nD τ) arg13 fullShare d)) -∗ K ⟨⟩))
      ⊢ wp frame (wpE (defs₀ (F := F)) Variants.none c none) E (cc0_w4a4_swiglu i arg1 harg1 arg2 harg2 arg3 harg3 arg4 harg4 arg5 harg5 arg6 harg6 arg7 harg7 arg8 harg8 arg9 harg9 arg10 harg10 arg11 harg11 arg12 harg12 arg13 harg13) K := by
  simp only [cc0_w4a4_swiglu_eq_skeleton]; unfold cc0_w4a4_swiglu_skel
  simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    have h11 := (loop1_11 Variants.none c none i arg1 harg1 arg2 harg2 arg3 harg3 arg4 harg4 arg5 harg5 arg6 harg6 arg7 harg7 arg8 harg8 arg9 harg9 arg10 harg10 arg11 harg11 arg12 harg12 arg13 harg13 hc0 (iota .tc S32x128 32 [1] iota_S32x128_d1_w32) (harg1.unread x0) f10).trans (congrArg aT (harg1.read_unread x0))
    have hp := prod_read (F := F) arg2 (harg2.unread x1) arg3 (harg3.unread x2) arg11 (arg11.view.writes (Elt F) f10 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 (iota .tc S32x128 32 [1] iota_S32x128_d1_w32) (harg1.unread x0) k0_t1_loop.trips).2.2.2) arg12 arg13 arg12.view.junk arg13.view.junk (harg2.read_unread x1) (harg3.read_unread x2) h11
    refine (loop2_4 Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _).trans (congrArg hT ?_)
    exact hp
  isplitl [H4]
  · iexists _; isplitr; swap; · iexact H4
    ipureintro
    exact (loop1_5 Variants.none c none i arg1 harg1 arg2 harg2 arg3 harg3 arg4 harg4 arg5 harg5 arg6 harg6 arg7 harg7 arg8 harg8 arg9 harg9 arg10 harg10 arg11 harg11 arg12 harg12 arg13 harg13 hc0 (iota .tc S32x128 32 [1] iota_S32x128_d1_w32) (harg1.unread x0) _).trans (congrArg acT (harg1.read_unread x0))
  isplitl [H5]
  · iexists _; isplitr; swap; · iexact H5
    ipureintro
    exact (loop1_6 Variants.none c none i arg1 harg1 arg2 harg2 arg3 harg3 arg4 harg4 arg5 harg5 arg6 harg6 arg7 harg7 arg8 harg8 arg9 harg9 arg10 harg10 arg11 harg11 arg12 harg12 arg13 harg13 hc0 (iota .tc S32x128 32 [1] iota_S32x128_d1_w32) (harg1.unread x0) rfl _).trans (congrArg asT (harg1.read_unread x0))
  isplitl [H6]
  · iexists _; isplitr; swap; · iexact H6
    ipureintro
    exact (loop1_7 Variants.none c none i arg1 harg1 arg2 harg2 arg3 harg3 arg4 harg4 arg5 harg5 arg6 harg6 arg7 harg7 arg8 harg8 arg9 harg9 arg10 harg10 arg11 harg11 arg12 harg12 arg13 harg13 hc0 (iota .tc S32x128 32 [1] iota_S32x128_d1_w32) (harg1.unread x0) rfl _).trans (congrArg azT (harg1.read_unread x0))
  isplitl [H7]
  · iexists _; isplitr; swap; · iexact H7
    ipureintro
    have h11 := (loop1_11 Variants.none c none i arg1 harg1 arg2 harg2 arg3 harg3 arg4 harg4 arg5 harg5 arg6 harg6 arg7 harg7 arg8 harg8 arg9 harg9 arg10 harg10 arg11 harg11 arg12 harg12 arg13 harg13 hc0 (iota .tc S32x128 32 [1] iota_S32x128_d1_w32) (harg1.unread x0) f10).trans (congrArg aT (harg1.read_unread x0))
    have hp := prod_read (F := F) arg2 (harg2.unread x1) arg3 (harg3.unread x2) arg11 (arg11.view.writes (Elt F) f10 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 (iota .tc S32x128 32 [1] iota_S32x128_d1_w32) (harg1.unread x0) k0_t1_loop.trips).2.2.2) arg12 arg13 arg12.view.junk arg13.view.junk (harg2.read_unread x1) (harg3.read_unread x2) h11
    refine (loop2_8 Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _).trans (congrArg hcT ?_)
    exact hp
  isplitl [H8]
  · iexists _; isplitr; swap; · iexact H8
    ipureintro
    have h11 := (loop1_11 Variants.none c none i arg1 harg1 arg2 harg2 arg3 harg3 arg4 harg4 arg5 harg5 arg6 harg6 arg7 harg7 arg8 harg8 arg9 harg9 arg10 harg10 arg11 harg11 arg12 harg12 arg13 harg13 hc0 (iota .tc S32x128 32 [1] iota_S32x128_d1_w32) (harg1.unread x0) f10).trans (congrArg aT (harg1.read_unread x0))
    have hp := prod_read (F := F) arg2 (harg2.unread x1) arg3 (harg3.unread x2) arg11 (arg11.view.writes (Elt F) f10 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 (iota .tc S32x128 32 [1] iota_S32x128_d1_w32) (harg1.unread x0) k0_t1_loop.trips).2.2.2) arg12 arg13 arg12.view.junk arg13.view.junk (harg2.read_unread x1) (harg3.read_unread x2) h11
    refine (congrArg _ (View.writes_append _ _ _ _)).trans ?_
    refine (loop2_9 Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _ (i 0).val hj rfl rfl).trans ?_
    refine (congrArg (fun T => hsT (i 0).val T _) ?_).trans (congrArg (hsT (i 0).val _) ?_)
    · exact hp
    · exact read_write_whole2 (s := S768x44) arg9 arg9.view.junk (by intro a; fin_cases a <;> rfl) _ zero9
  isplitl [H9]
  · iexists _; isplitr; swap; · iexact H9
    ipureintro
    have h11 := (loop1_11 Variants.none c none i arg1 harg1 arg2 harg2 arg3 harg3 arg4 harg4 arg5 harg5 arg6 harg6 arg7 harg7 arg8 harg8 arg9 harg9 arg10 harg10 arg11 harg11 arg12 harg12 arg13 harg13 hc0 (iota .tc S32x128 32 [1] iota_S32x128_d1_w32) (harg1.unread x0) f10).trans (congrArg aT (harg1.read_unread x0))
    have hp := prod_read (F := F) arg2 (harg2.unread x1) arg3 (harg3.unread x2) arg11 (arg11.view.writes (Elt F) f10 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 (iota .tc S32x128 32 [1] iota_S32x128_d1_w32) (harg1.unread x0) k0_t1_loop.trips).2.2.2) arg12 arg13 arg12.view.junk arg13.view.junk (harg2.read_unread x1) (harg3.read_unread x2) h11
    refine (congrArg _ (View.writes_append _ _ _ _)).trans ?_
    refine (loop2_10 Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _ (i 0).val hj rfl rfl).trans ?_
    refine (congrArg (fun T => hzT (i 0).val T _) ?_).trans (congrArg (hzT (i 0).val _) ?_)
    · exact hp
    · exact read_write_whole2 (s := S768x44) arg10 arg10.view.junk (by intro a; fin_cases a <;> rfl) _ zero10
  isplitl [H10]
  · iexists _; isplitr; swap; · iexact H10
    ipureintro
    exact (loop1_11 Variants.none c none i arg1 harg1 arg2 harg2 arg3 harg3 arg4 harg4 arg5 harg5 arg6 harg6 arg7 harg7 arg8 harg8 arg9 harg9 arg10 harg10 arg11 harg11 arg12 harg12 arg13 harg13 hc0 (iota .tc S32x128 32 [1] iota_S32x128_d1_w32) (harg1.unread x0) f10).trans (congrArg aT (harg1.read_unread x0))
  isplitl [H11]
  · iexists _, _; isplitr; swap; · iexact H11
    ipureintro; rfl
  iexists _, _; isplitr; swap; · iexact H12
  ipureintro; rfl

end Cert.KernelIdeal.Val

end
-- ==== Proof.Value.BodyB.lean ====
/- The kernel's body at a later grid point, with what it leaves in each buffer. -/
module

public import proofs.«01_k».proof.Proof.Value.Deq
public import proofs.«01_k».proof.Proof.Ideal.Runs

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 4000000 in
/-- The body's triple. -/
theorem body_B (c : Dev nD) (i : grid0.Coords) (arg1 : Memref sig .tc .vmem S768x2048 .bf16) (harg1 : arg1.IsWhole) (arg2 : Memref sig .tc .vmem S2x1024x256 .i8) (harg2 : arg2.IsWhole) (arg3 : Memref sig .tc .vmem S2x16x256 .f32) (harg3 : arg3.IsWhole) (arg4 : Memref sig .tc .vmem S768x256 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x128 .i8) (harg8 : arg8.IsWhole) (arg9 : Memref sig .tc .vmem S768x44 .f32) (harg9 : arg9.IsWhole) (arg10 : Memref sig .tc .vmem S768x44 .i8) (harg10 : arg10.IsWhole) (arg11 : Memref sig .tc .vmem S768x2048 .bf16) (harg11 : arg11.IsWhole) (arg12 : Memref sig .tc .vmem S2x2048x256 .bf16) (harg12 : arg12.IsWhole) (arg13 : Memref sig .tc .vmem S2x768x256 .f32) (harg13 : arg13.IsWhole) (hc0 : ¬cond0_0 i) (hj : (i 0).val < 22)
    (x0 : Vec F S768x2048 .bf16) (x1 : Vec F S2x1024x256 .i8) (x2 : Vec F S2x16x256 .f32)
    (x5 : Vec F S768x1024 .i8) (x6 : Vec F S768x16 .f32) (x7 : Vec F S768x16 .i8) (s9 : Vec F S768x44 .f32) (s10 : Vec F S768x44 .i8) (xs0 : Vec F S768x2048 .bf16) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare s9 ∗ owns (c : Thread nD τ) arg10 fullShare s10 ∗ owns (c : Thread nD τ) arg11 fullShare xs0 ∗ (∃ d, owns (c : Thread nD τ) arg12 fullShare d) ∗ (∃ d, owns (c : Thread nD τ) arg13 fullShare d)
      ∗ (iprop(owns (c : Thread nD τ) arg1 fullShare x0 ∗ owns (c : Thread nD τ) arg2 fullShare x1 ∗ owns (c : Thread nD τ) arg3 fullShare x2 ∗ owns (c : Thread nD τ) arg4 fullShare (hT (tT xs0 (wbT x1 x2))) ∗ owns (c : Thread nD τ) arg5 fullShare x5 ∗ owns (c : Thread nD τ) arg6 fullShare x6 ∗ owns (c : Thread nD τ) arg7 fullShare x7 ∗ owns (c : Thread nD τ) arg8 fullShare (hcT (tT xs0 (wbT x1 x2))) ∗ owns (c : Thread nD τ) arg9 fullShare (hsT (i 0).val (tT xs0 (wbT x1 x2)) s9) ∗ owns (c : Thread nD τ) arg10 fullShare (hzT (i 0).val (tT xs0 (wbT x1 x2)) s10) ∗ owns (c : Thread nD τ) arg11 fullShare xs0 ∗ (∃ d, owns (c : Thread nD τ) arg12 fullShare d) ∗ (∃ d, owns (c : Thread nD τ) arg13 fullShare d)) -∗ K ⟨⟩))
      ⊢ wp frame (wpE (defs₀ (F := F)) Variants.none c none) E (cc0_w4a4_swiglu i arg1 harg1 arg2 harg2 arg3 harg3 arg4 harg4 arg5 harg5 arg6 harg6 arg7 harg7 arg8 harg8 arg9 harg9 arg10 harg10 arg11 harg11 arg12 harg12 arg13 harg13) K := by
  simp only [cc0_w4a4_swiglu_eq_skeleton]; unfold cc0_w4a4_swiglu_skel
  simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%d11, %f11, -, H11⟩, ⟨%d12, %f12, -, H12⟩, Hk⟩
  obtain rfl := harg1.eq_unread hf0; obtain rfl := harg2.eq_unread hf1; obtain rfl := harg3.eq_unread hf2; obtain rfl := harg11.eq_unread hf10; obtain rfl := hf8; obtain rfl := hf9
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    have hp := prod_read (F := F) arg2 (harg2.unread x1) arg3 (harg3.unread x2) arg11 (harg11.unread xs0) arg12 arg13 arg12.view.junk arg13.view.junk (harg2.read_unread x1) (harg3.read_unread x2) (harg11.read_unread xs0)
    refine (loop2_4 Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _).trans (congrArg hT ?_)
    exact hp
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    have hp := prod_read (F := F) arg2 (harg2.unread x1) arg3 (harg3.unread x2) arg11 (harg11.unread xs0) arg12 arg13 arg12.view.junk arg13.view.junk (harg2.read_unread x1) (harg3.read_unread x2) (harg11.read_unread xs0)
    refine (loop2_8 Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _).trans (congrArg hcT ?_)
    exact hp
  isplitl [H8]
  · iexists _; isplitr; swap; · iexact H8
    ipureintro
    have hp := prod_read (F := F) arg2 (harg2.unread x1) arg3 (harg3.unread x2) arg11 (harg11.unread xs0) arg12 arg13 arg12.view.junk arg13.view.junk (harg2.read_unread x1) (harg3.read_unread x2) (harg11.read_unread xs0)
    refine (loop2_9 Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _ (i 0).val hj rfl rfl).trans (congrArg (fun T => hsT (i 0).val T _) ?_)
    exact hp
  isplitl [H9]
  · iexists _; isplitr; swap; · iexact H9
    ipureintro
    have hp := prod_read (F := F) arg2 (harg2.unread x1) arg3 (harg3.unread x2) arg11 (harg11.unread xs0) arg12 arg13 arg12.view.junk arg13.view.junk (harg2.read_unread x1) (harg3.read_unread x2) (harg11.read_unread xs0)
    refine (loop2_10 Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _ (i 0).val hj rfl rfl).trans (congrArg (fun T => hzT (i 0).val T _) ?_)
    exact hp
  isplitl [H10]
  · iexists _; isplitr; · ipureintro; exact harg11.read_unread _
    iexact H10
  isplitl [H11]
  · iexists _, _; isplitr; swap; · iexact H11
    ipureintro; rfl
  iexists _, _; isplitr; swap; · iexact H12
  ipureintro; rfl

end Cert.KernelIdeal.Val

end
-- ==== Proof.Value.Run.lean ====
/- The kernel's run: what every buffer holds after every grid point. -/
module

public import proofs.«01_k».proof.Proof.Value.BodyA
public import proofs.«01_k».proof.Proof.Value.BodyB
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_pos : 0 < cfg0.N := by rw [show cfg0.N = 22 from N_0]; decide

/-- The block of activations. -/
def X0 (c : Dev nD) : Vec F S768x2048 .bf16 := iblk m c 0 ⟨0, N_pos⟩

/-- The products of a grid point. -/
def TT (c : Dev nD) (t : Fin cfg0.N) : Vec F S2x768x256 .f32 := tT (aT (X0 m c)) (wbT (iblk m c 1 t) (iblk m c 2 t))

/-- The scales after a grid point. -/
def hsAt (c : Dev nD) : (n : ℕ) → n < cfg0.N → Vec F S768x44 .f32
  | 0, h => hsT 0 (TT m c ⟨0, h⟩) zero9
  | n + 1, h => hsT (n + 1) (TT m c ⟨n + 1, h⟩) (hsAt c n (Nat.lt_of_succ_lt h))

/-- The zero points after a grid point. -/
def hzAt (c : Dev nD) : (n : ℕ) → n < cfg0.N → Vec F S768x44 .i8
  | 0, h => hzT 0 (TT m c ⟨0, h⟩) zero10
  | n + 1, h => hzT (n + 1) (TT m c ⟨n + 1, h⟩) (hzAt c n (Nat.lt_of_succ_lt h))

theorem coord (t : Fin cfg0.N) : (grid0.coords t 0).val = t.val := by
  have hN : t.val < 22 := lt_of_lt_of_eq t.isLt (show cfg0.N = 22 from N_0)
  have e0 : (grid0.coords t 0).val = t.val / 1 % 22 := Pipeline.Grid.coords_val t 0 (by decide) rfl
  omega

/-- The scratch between points: the quantised activations, once stored, stay. -/
def PhiS (c : Dev nD) : ℕ → sProp 𝕄
  | 0 => Pipeline.ΦA spec0 c
  | _ + 1 => iprop(iprop(owns (c : Thread nD τ) scM0_0 fullShare (aT (X0 m c)) ∗ (∃ d, owns (c : Thread nD τ) scM0_1 fullShare d) ∗ (∃ d, owns (c : Thread nD τ) scM0_2 fullShare d)) ∗ (∃ r, prngReg c r))

theorem PhiS_pos (c : Dev nD) (n : ℕ) (hz : n ≠ 0) :
    PhiS m c n = iprop(iprop(owns (c : Thread nD τ) scM0_0 fullShare (aT (X0 m c)) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-- What the arrays hold at the start and each buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hT (TT m c t)
    | ⟨4, _⟩ => acT (X0 m c)
    | ⟨5, _⟩ => asT (X0 m c)
    | ⟨6, _⟩ => azT (X0 m c)
    | ⟨7, _⟩ => hcT (TT m c t)
    | ⟨8, _⟩ => hsAt m c t.val t.isLt
    | ⟨9, _⟩ => hzAt m c t.val t.isLt
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = hT (TT m c t) := by dsimp only [dats]
theorem after_4 (c : Dev nD) (t : Fin cfg0.N) : (dats m 0 c).after 4 t = acT (X0 m c) := by dsimp only [dats]
theorem after_5 (c : Dev nD) (t : Fin cfg0.N) : (dats m 0 c).after 5 t = asT (X0 m c) := by dsimp only [dats]
theorem after_6 (c : Dev nD) (t : Fin cfg0.N) : (dats m 0 c).after 6 t = azT (X0 m c) := by dsimp only [dats]
theorem after_7 (c : Dev nD) (t : Fin cfg0.N) : (dats m 0 c).after 7 t = hcT (TT m c t) := by dsimp only [dats]
theorem after_8 (c : Dev nD) (t : Fin cfg0.N) : (dats m 0 c).after 8 t = hsAt m c t.val t.isLt := by dsimp only [dats]
theorem after_9 (c : Dev nD) (t : Fin cfg0.N) : (dats m 0 c).after 9 t = hzAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem before_8 (c : Dev nD) (t : Fin cfg0.N) (hz : t.val ≠ 0) (d) :
    (dats m 0 c).before 8 t d = hsAt m c (t.val - 1) (Nat.lt_of_le_of_lt (Nat.sub_le _ _) t.isLt) := by
  have hN : t.val < 22 := lt_of_lt_of_eq t.isLt (show cfg0.N = 22 from N_0)
  refine ((dats m 0 c).before_out_kept 8 rfl t hz ?_ (fun _ => rfl) (fun _ _ => rfl) d).trans (after_8 m c _)
  rw [Bool.eq_false_iff]; intro h
  have := (flush0_8 _).mp h
  dsimp only at this; omega

theorem before_9 (c : Dev nD) (t : Fin cfg0.N) (hz : t.val ≠ 0) (d) :
    (dats m 0 c).before 9 t d = hzAt m c (t.val - 1) (Nat.lt_of_le_of_lt (Nat.sub_le _ _) t.isLt) := by
  have hN : t.val < 22 := lt_of_lt_of_eq t.isLt (show cfg0.N = 22 from N_0)
  refine ((dats m 0 c).before_out_kept 9 rfl t hz ?_ (fun _ => rfl) (fun _ _ => rfl) d).trans (after_9 m c _)
  rw [Bool.eq_false_iff]; intro h
  have := (flush0_9 _).mp h
  dsimp only at this; omega

theorem idle_4_zero (t : Fin cfg0.N) (hz : t.val = 0) : cfg0.idle 4 (grid0.coords t) = false := by
  show (!(k0_cond1 (grid0.coords t) == 1#1)) = false
  rw [show k0_cond1 (grid0.coords t) = 1#1 from (hcond0_0 t).mpr (by rw [hz])]; rfl

theorem idle_4_pos (t : Fin cfg0.N) (hz : t.val ≠ 0) : cfg0.idle 4 (grid0.coords t) = true := by
  have hN : t.val < 22 := lt_of_lt_of_eq t.isLt (show cfg0.N = 22 from N_0)
  have h : ¬ k0_cond1 (grid0.coords t) = 1#1 := fun h => by have := (hcond0_0 t).mp h; omega
  show (!(k0_cond1 (grid0.coords t) == 1#1)) = true
  rw [beq_eq_false_iff_ne.mpr h]; rfl

theorem before_4 (c : Dev nD) : ∀ (n : ℕ) (hn : n < cfg0.N), n ≠ 0 → ∀ d, (dats m 0 c).before 4 ⟨n, hn⟩ d = acT (X0 m c)
  | 0, _, h, _ => absurd rfl h
  | n + 1, hn, _, d => by
    have hN : n + 1 < 22 := lt_of_lt_of_eq hn (show cfg0.N = 22 from N_0)
    rw [(dats m 0 c).before_of_pos 4 ⟨n + 1, hn⟩ (Nat.succ_ne_zero n) ((cfg0.win 4).fetch_out rfl _)]
    have hf : (cfg0.win 4).flush (⟨n, Nat.lt_of_succ_lt hn⟩ : Fin cfg0.N) = false := by
      rw [Bool.eq_false_iff]; intro h
      have := (flush0_4 _).mp h
      dsimp only at this; omega
    show (if (cfg0.win 4).flush (⟨n, Nat.lt_of_succ_lt hn⟩ : Fin cfg0.N) then d else (dats m 0 c).left 4 ⟨n, Nat.lt_of_succ_lt hn⟩ d) = _
    rw [hf, if_neg Bool.false_ne_true]
    by_cases hz : n = 0
    · unfold Dat.left; rw [idle_4_zero ⟨n, Nat.lt_of_succ_lt hn⟩ hz]
      exact after_4 m c _
    · unfold Dat.left; rw [idle_4_pos ⟨n, Nat.lt_of_succ_lt hn⟩ hz]
      exact before_4 c n (Nat.lt_of_succ_lt hn) hz d

theorem leave_4 (c : Dev nD) (t : Fin cfg0.N) (hz : t.val ≠ 0) :
    owns (c : Thread nD τ) (ms0_4 t) fullShare (acT (X0 m c)) ⊢ (dats m 0 c).leavesExact 4 t := by
  by_cases hf : (cfg0.win 4).flush t = true
  · rw [show (dats m 0 c).leavesExact 4 t = owns (c : Thread nD τ) (ms0_4 t) fullShare ((dats m 0 c).after 4 t) from by
      unfold Dat.leavesExact; rw [idle_4_pos t hz, hf], after_4]
  · rw [(dats m 0 c).leavesExact_idle 4 t (idle_4_pos t hz) (by simpa using hf)]
    iintro H
    iexists (acT (X0 m c))
    rw [before_4 m c t.val t.isLt hz]
    iexact H

theorem idle_5_zero (t : Fin cfg0.N) (hz : t.val = 0) : cfg0.idle 5 (grid0.coords t) = false := by
  show (!(k0_cond1 (grid0.coords t) == 1#1)) = false
  rw [show k0_cond1 (grid0.coords t) = 1#1 from (hcond0_0 t).mpr (by rw [hz])]; rfl

theorem idle_5_pos (t : Fin cfg0.N) (hz : t.val ≠ 0) : cfg0.idle 5 (grid0.coords t) = true := by
  have hN : t.val < 22 := lt_of_lt_of_eq t.isLt (show cfg0.N = 22 from N_0)
  have h : ¬ k0_cond1 (grid0.coords t) = 1#1 := fun h => by have := (hcond0_0 t).mp h; omega
  show (!(k0_cond1 (grid0.coords t) == 1#1)) = true
  rw [beq_eq_false_iff_ne.mpr h]; rfl

theorem before_5 (c : Dev nD) : ∀ (n : ℕ) (hn : n < cfg0.N), n ≠ 0 → ∀ d, (dats m 0 c).before 5 ⟨n, hn⟩ d = asT (X0 m c)
  | 0, _, h, _ => absurd rfl h
  | n + 1, hn, _, d => by
    have hN : n + 1 < 22 := lt_of_lt_of_eq hn (show cfg0.N = 22 from N_0)
    rw [(dats m 0 c).before_of_pos 5 ⟨n + 1, hn⟩ (Nat.succ_ne_zero n) ((cfg0.win 5).fetch_out rfl _)]
    have hf : (cfg0.win 5).flush (⟨n, Nat.lt_of_succ_lt hn⟩ : Fin cfg0.N) = false := by
      rw [Bool.eq_false_iff]; intro h
      have := (flush0_5 _).mp h
      dsimp only at this; omega
    show (if (cfg0.win 5).flush (⟨n, Nat.lt_of_succ_lt hn⟩ : Fin cfg0.N) then d else (dats m 0 c).left 5 ⟨n, Nat.lt_of_succ_lt hn⟩ d) = _
    rw [hf, if_neg Bool.false_ne_true]
    by_cases hz : n = 0
    · unfold Dat.left; rw [idle_5_zero ⟨n, Nat.lt_of_succ_lt hn⟩ hz]
      exact after_5 m c _
    · unfold Dat.left; rw [idle_5_pos ⟨n, Nat.lt_of_succ_lt hn⟩ hz]
      exact before_5 c n (Nat.lt_of_succ_lt hn) hz d

theorem leave_5 (c : Dev nD) (t : Fin cfg0.N) (hz : t.val ≠ 0) :
    owns (c : Thread nD τ) (ms0_5 t) fullShare (asT (X0 m c)) ⊢ (dats m 0 c).leavesExact 5 t := by
  by_cases hf : (cfg0.win 5).flush t = true
  · rw [show (dats m 0 c).leavesExact 5 t = owns (c : Thread nD τ) (ms0_5 t) fullShare ((dats m 0 c).after 5 t) from by
      unfold Dat.leavesExact; rw [idle_5_pos t hz, hf], after_5]
  · rw [(dats m 0 c).leavesExact_idle 5 t (idle_5_pos t hz) (by simpa using hf)]
    iintro H
    iexists (asT (X0 m c))
    rw [before_5 m c t.val t.isLt hz]
    iexact H

theorem idle_6_zero (t : Fin cfg0.N) (hz : t.val = 0) : cfg0.idle 6 (grid0.coords t) = false := by
  show (!(k0_cond1 (grid0.coords t) == 1#1)) = false
  rw [show k0_cond1 (grid0.coords t) = 1#1 from (hcond0_0 t).mpr (by rw [hz])]; rfl

theorem idle_6_pos (t : Fin cfg0.N) (hz : t.val ≠ 0) : cfg0.idle 6 (grid0.coords t) = true := by
  have hN : t.val < 22 := lt_of_lt_of_eq t.isLt (show cfg0.N = 22 from N_0)
  have h : ¬ k0_cond1 (grid0.coords t) = 1#1 := fun h => by have := (hcond0_0 t).mp h; omega
  show (!(k0_cond1 (grid0.coords t) == 1#1)) = true
  rw [beq_eq_false_iff_ne.mpr h]; rfl

theorem before_6 (c : Dev nD) : ∀ (n : ℕ) (hn : n < cfg0.N), n ≠ 0 → ∀ d, (dats m 0 c).before 6 ⟨n, hn⟩ d = azT (X0 m c)
  | 0, _, h, _ => absurd rfl h
  | n + 1, hn, _, d => by
    have hN : n + 1 < 22 := lt_of_lt_of_eq hn (show cfg0.N = 22 from N_0)
    rw [(dats m 0 c).before_of_pos 6 ⟨n + 1, hn⟩ (Nat.succ_ne_zero n) ((cfg0.win 6).fetch_out rfl _)]
    have hf : (cfg0.win 6).flush (⟨n, Nat.lt_of_succ_lt hn⟩ : Fin cfg0.N) = false := by
      rw [Bool.eq_false_iff]; intro h
      have := (flush0_6 _).mp h
      dsimp only at this; omega
    show (if (cfg0.win 6).flush (⟨n, Nat.lt_of_succ_lt hn⟩ : Fin cfg0.N) then d else (dats m 0 c).left 6 ⟨n, Nat.lt_of_succ_lt hn⟩ d) = _
    rw [hf, if_neg Bool.false_ne_true]
    by_cases hz : n = 0
    · unfold Dat.left; rw [idle_6_zero ⟨n, Nat.lt_of_succ_lt hn⟩ hz]
      exact after_6 m c _
    · unfold Dat.left; rw [idle_6_pos ⟨n, Nat.lt_of_succ_lt hn⟩ hz]
      exact before_6 c n (Nat.lt_of_succ_lt hn) hz d

theorem leave_6 (c : Dev nD) (t : Fin cfg0.N) (hz : t.val ≠ 0) :
    owns (c : Thread nD τ) (ms0_6 t) fullShare (azT (X0 m c)) ⊢ (dats m 0 c).leavesExact 6 t := by
  by_cases hf : (cfg0.win 6).flush t = true
  · rw [show (dats m 0 c).leavesExact 6 t = owns (c : Thread nD τ) (ms0_6 t) fullShare ((dats m 0 c).after 6 t) from by
      unfold Dat.leavesExact; rw [idle_6_pos t hz, hf], after_6]
  · rw [(dats m 0 c).leavesExact_idle 6 t (idle_6_pos t hz) (by simpa using hf)]
    iintro H
    iexists (azT (X0 m c))
    rw [before_6 m c t.val t.isLt hz]
    iexact H

/-- What the body finds at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [show cfg0.idle 0 (grid0.coords t) = false from rfl], after_0]
theorem leaves_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [show cfg0.idle 1 (grid0.coords t) = false from rfl], after_1]
theorem leaves_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [show cfg0.idle 2 (grid0.coords t) = false from rfl], after_2]
theorem leaves_3 (c : Dev nD) (t : Fin cfg0.N) : (dats m 0 c).leavesExact 3 t = owns (c : Thread nD τ) (ms0_3 t) fullShare (hT (TT m c t)) := by
  rw [show (dats m 0 c).leavesExact 3 t = owns (c : Thread nD τ) (ms0_3 t) fullShare ((dats m 0 c).after 3 t) from by
    unfold Dat.leavesExact; rw [show cfg0.idle 3 (grid0.coords t) = false from rfl], after_3]
theorem leaves_7 (c : Dev nD) (t : Fin cfg0.N) : (dats m 0 c).leavesExact 7 t = owns (c : Thread nD τ) (ms0_7 t) fullShare (hcT (TT m c t)) := by
  rw [show (dats m 0 c).leavesExact 7 t = owns (c : Thread nD τ) (ms0_7 t) fullShare ((dats m 0 c).after 7 t) from by
    unfold Dat.leavesExact; rw [show cfg0.idle 7 (grid0.coords t) = false from rfl], after_7]
theorem leaves_8 (c : Dev nD) (t : Fin cfg0.N) : (dats m 0 c).leavesExact 8 t = owns (c : Thread nD τ) (ms0_8 t) fullShare (hsAt m c t.val t.isLt) := by
  rw [show (dats m 0 c).leavesExact 8 t = owns (c : Thread nD τ) (ms0_8 t) fullShare ((dats m 0 c).after 8 t) from by
    unfold Dat.leavesExact; rw [show cfg0.idle 8 (grid0.coords t) = false from rfl], after_8]
theorem leaves_9 (c : Dev nD) (t : Fin cfg0.N) : (dats m 0 c).leavesExact 9 t = owns (c : Thread nD τ) (ms0_9 t) fullShare (hzAt m c t.val t.isLt) := by
  rw [show (dats m 0 c).leavesExact 9 t = owns (c : Thread nD τ) (ms0_9 t) fullShare ((dats m 0 c).after 9 t) from by
    unfold Dat.leavesExact; rw [show cfg0.idle 9 (grid0.coords t) = false from rfl], after_9]
theorem leaves_4_zero (c : Dev nD) (t : Fin cfg0.N) (hz : t.val = 0) : (dats m 0 c).leavesExact 4 t = owns (c : Thread nD τ) (ms0_4 t) fullShare (acT (X0 m c)) := by
  rw [show (dats m 0 c).leavesExact 4 t = owns (c : Thread nD τ) (ms0_4 t) fullShare ((dats m 0 c).after 4 t) from by
    unfold Dat.leavesExact; rw [idle_4_zero t hz], after_4]
theorem leaves_5_zero (c : Dev nD) (t : Fin cfg0.N) (hz : t.val = 0) : (dats m 0 c).leavesExact 5 t = owns (c : Thread nD τ) (ms0_5 t) fullShare (asT (X0 m c)) := by
  rw [show (dats m 0 c).leavesExact 5 t = owns (c : Thread nD τ) (ms0_5 t) fullShare ((dats m 0 c).after 5 t) from by
    unfold Dat.leavesExact; rw [idle_5_zero t hz], after_5]
theorem leaves_6_zero (c : Dev nD) (t : Fin cfg0.N) (hz : t.val = 0) : (dats m 0 c).leavesExact 6 t = owns (c : Thread nD τ) (ms0_6 t) fullShare (azT (X0 m c)) := by
  rw [show (dats m 0 c).leavesExact 6 t = owns (c : Thread nD τ) (ms0_6 t) fullShare ((dats m 0 c).after 6 t) from by
    unfold Dat.leavesExact; rw [idle_6_zero t hz], after_6]

set_option maxHeartbeats 1000000 in
theorem sound_A (c : Dev nD) (t : Fin cfg0.N) (hz : t.val = 0) :
    bodyPre m c t ⊢ wp frame (wpE (defs₀ (F := F)) Variants.none c none) Set.univ (bodyAt0 t) (fun _ => bodyPost m c t) := by
  have hj : (grid0.coords t 0).val < 22 := by rw [coord, hz]; decide
  have h8 : hsAt m c t.val t.isLt = hsT (grid0.coords t 0).val (tT (aT (iblk m c 0 t)) (wbT (iblk m c 1 t) (iblk m c 2 t))) zero9 := by
    rw [coord]; obtain ⟨n, hn⟩ := t; dsimp only at hz; subst hz; rfl
  have h9 : hzAt m c t.val t.isLt = hzT (grid0.coords t 0).val (tT (aT (iblk m c 0 t)) (wbT (iblk m c 1 t) (iblk m c 2 t))) zero10 := by
    rw [coord]; obtain ⟨n, hn⟩ := t; dsimp only at hz; subst hz; rfl
  have hX : X0 m c = iblk m c 0 t := by obtain ⟨n, hn⟩ := t; dsimp only at hz; subst hz; rfl
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [leaves_0 m c t, leaves_1 m c t, leaves_2 m c t, leaves_3 m c t, leaves_7 m c t, leaves_8 m c t, leaves_9 m c t, leaves_4_zero m c t hz, leaves_5_zero m c t hz, leaves_6_zero m c t hz, h8, h9]
  unfold TT
  rw [hX]
  rw [Phi_castSucc m c t, hz, show PhiS m c 0 = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr (by rw [hz])) hj (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1000000 in
theorem sound_B (c : Dev nD) (t : Fin cfg0.N) (hz : t.val ≠ 0) :
    bodyPre m c t ⊢ wp frame (wpE (defs₀ (F := F)) Variants.none c none) Set.univ (bodyAt0 t) (fun _ => bodyPost m c t) := by
  have hN : t.val < 22 := lt_of_lt_of_eq t.isLt (show cfg0.N = 22 from N_0)
  have hj : (grid0.coords t 0).val < 22 := by rw [coord]; exact hN
  have h8 : hsAt m c t.val t.isLt = hsT (grid0.coords t 0).val (tT (aT (X0 m c)) (wbT (iblk m c 1 t) (iblk m c 2 t))) (hsAt m c (t.val - 1) (Nat.lt_of_le_of_lt (Nat.sub_le _ _) t.isLt)) := by
    rw [coord]; obtain ⟨n, hn⟩ := t; cases n with
    | zero => exact absurd rfl hz
    | succ n => rfl
  have h9 : hzAt m c t.val t.isLt = hzT (grid0.coords t 0).val (tT (aT (X0 m c)) (wbT (iblk m c 1 t) (iblk m c 2 t))) (hzAt m c (t.val - 1) (Nat.lt_of_le_of_lt (Nat.sub_le _ _) t.isLt)) := by
    rw [coord]; obtain ⟨n, hn⟩ := t; cases n with
    | zero => exact absurd rfl hz
    | succ n => rfl
  unfold bodyPre bodyPost bodyAt0
  simp only [before_0, before_1, before_2, before_4 m c t.val t.isLt hz, before_5 m c t.val t.isLt hz, before_6 m c t.val t.isLt hz, before_8 m c t hz, before_9 m c t hz]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [leaves_0 m c t, leaves_1 m c t, leaves_2 m c t, leaves_3 m c t, leaves_7 m c t, leaves_8 m c t, leaves_9 m c t, h8, h9]
  unfold TT
  rw [Phi_castSucc m c t, PhiS_pos m c _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => hz (by have := (hcond0_0 t).mp h; omega)) hj (iblk m c 0 t) (iblk m c 1 t) (iblk m c 2 t) (acT (X0 m c)) (asT (X0 m c)) (azT (X0 m c)) (hsAt m c (t.val - 1) (Nat.lt_of_le_of_lt (Nat.sub_le _ _) t.isLt)) (hzAt m c (t.val - 1) (Nat.lt_of_le_of_lt (Nat.sub_le _ _) t.isLt)) (aT (X0 m c)) Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iapply (leave_4 m c t hz); iexact H4
  isplitl [H5]; · iapply (leave_5 m c t hz); iexact H5
  isplitl [H6]; · iapply (leave_6 m c t hz); iexact H6
  isplitl [H7]; · iexact H7
  isplitl [H8]; · iexact H8
  iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases hz : t.val = 0
  · exact triple_restated (sound_A m c t hz) rfl .rfl fun _ => .rfl
  · exact triple_restated (sound_B m c t hz) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N from rfl, PhiS_pos m c _ (by rw [show cfg0.N = 22 from N_0]; decide), PhiA0_eq]
  iintro ⟨⟨HS0, HS1, HS2⟩, Hg⟩
  isplitl [HS0 HS1 HS2]
  · isplitl [HS0]
    · iexists _; iexact HS0
    isplitl [HS1]
    · iexact HS1
    iexact HS2
  iexact Hg

set_option backward.isDefEq.respectTransparency.types false in
/-- The launch runs to these contents, every counter back at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

end Cert.KernelIdeal.Val

end
-- ==== Proof.Value.Bytes.lean ====
/- Bytes and words: what the kernel's packing of two codes to a byte, and its unpacking of two weights from a byte, come to at an
   index. -/
module

public import proofs.«01_k».proof.Proof.Value.Deq
public import Idealize.ShloMosaic.Lib.Pointwise
public import Idealize.ShloMosaic.Lib.BitcastPair

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

/-- A bit of a block read at another width: where it lies in the source block. -/
theorem bc_getLsbD {R r n v w : ℕ} (x : (⟨2, ![R, n]⟩ : Shape).Idx → BitVec v)
    (h : (⟨2, ![R, n]⟩ : Shape).Bitcasts v ⟨2, ![r, n]⟩ w) (a : Fin r) (l : Fin n) (q : ℕ) (hq : q < w) (hv : 0 < v)
    (p : Fin R) (hp : p.val = (a.val * w + q) / v) (q' : ℕ) (hq' : q' = (a.val * w + q) % v) :
    (bitcast ⟨2, ![r, n]⟩ w x h (ix2 a l)).getLsbD q = (x (ix2 p l)).getLsbD q' := by
  rw [bitcast_getLsbD x h _ q hq hv]
  subst hq'
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- The lane the low four bits of a packed byte come from, and that of the high four. -/
def loL (l : Fin 128) : Fin 128 := ⟨2 * (l.val % 64), by omega⟩
def hiL (l : Fin 128) : Fin 128 := ⟨2 * (l.val % 64) + 1, by omega⟩

/-- The lane of the joined pairs a packed byte is taken from. -/
def srcL (l : Fin 128) : Fin 128 := ⟨if l.val < 64 then 2 * l.val else 2 * l.val - 127, by split <;> omega⟩

theorem pkLanes_at (r : Fin 8) (l : Fin 128) : pkLanes (ix2 r l) = BitVec.ofNat 32 (srcL l).val := by
  pointwise [pkLanes, pkLanes0, lane8]
  revert l
  decide +kernel

theorem gather_at (x : IVec S8x128 32) (r : Fin 8) (l : Fin 128) : dynamicGather 1 x pkLanes (ix2 r l) = x (ix2 r (srcL l)) := by
  rw [dynamicGather_apply]
  congr 1
  funext b
  match b with
  | ⟨0, _⟩ => rfl
  | ⟨1, _⟩ =>
    apply Fin.ext
    show (pkLanes (ix2 r l)).toNat % 128 = (srcL l).val
    rw [pkLanes_at, BitVec.toNat_ofNat]
    have := (srcL l).isLt
    omega

theorem lane_even (m : Fin 128) : IntOp.cmpi .eq (IntOp.andi (BitVec.ofNat 32 m.val) 1#32) 0#32 = if m.val % 2 = 0 then 1#1 else 0#1 := by
  revert m
  decide +kernel

theorem pairs_at (b0 b1 : IVec S8x128 32) (r : Fin 8) (l : Fin 128) :
    pkPairs b0 b1 (ix2 r (srcL l))
      = (if l.val < 64 then b0 else b1) (ix2 r (loL l)) ||| ((if l.val < 64 then b0 else b1) (ix2 r (hiL l)) <<< 4) := by
  have sh : ∀ x : BitVec 32, IntOp.shli .vector x 4#32 = x <<< 4 := fun x => rfl
  pointwise [pkPairs, lane8]
  rw [lane_even]
  by_cases h : l.val < 64
  · have e : (srcL l).val = 2 * l.val := by unfold srcL; dsimp only; rw [if_pos h]
    have e0 : srcL l = loL l := Fin.ext (by rw [e]; unfold loL; dsimp only; omega)
    have e1 : ∀ hh, (⟨((srcL l).val + 128 - 127) % 128, hh⟩ : Fin 128) = hiL l := fun hh => Fin.ext (by unfold hiL; dsimp only; omega)
    have e1' : ∀ hh, (⟨((srcL l).val + 1) % 128, hh⟩ : Fin 128) = hiL l := fun hh => Fin.ext (by unfold hiL; dsimp only; omega)
    rw [if_pos (by omega)]
    simp only [Scalar.select, if_pos h, e1, sh, e0]
    simp [IntOp.ori, e1', ← e0]
  · have e : (srcL l).val = 2 * l.val - 127 := by unfold srcL; dsimp only; rw [if_neg h]
    have e0 : srcL l = hiL l := Fin.ext (by rw [e]; unfold hiL; dsimp only; omega)
    have e1 : ∀ hh, (⟨((srcL l).val + 128 - 1) % 128, hh⟩ : Fin 128) = loL l := fun hh => Fin.ext (by unfold loL; dsimp only; omega)
    have e1' : ∀ hh, (⟨((srcL l).val + 127) % 128, hh⟩ : Fin 128) = loL l := fun hh => Fin.ext (by unfold loL; dsimp only; omega)
    rw [if_neg (by omega)]
    simp only [Scalar.select, if_neg h, e1, sh, e0]
    simp [IntOp.ori, e1', ← e0]

/-- A byte below sixteen. -/
def Small (b : BitVec 8) : Prop := ∀ q, 4 ≤ q → b.getLsbD q = false

theorem small_of_lt {n : ℕ} (h : n ≤ 15) : Small (BitVec.ofNat 8 n) := by
  intro q hq
  rw [BitVec.getLsbD_ofNat, Nat.testBit_lt_two_pow (lt_of_le_of_lt h (lt_of_lt_of_le (by decide : 15 < 2 ^ 4) (Nat.pow_le_pow_right (by decide) hq))), Bool.and_false]

/-- The packed block at an index: the low four bits are the code of an even lane, the high four that of the next. -/
theorem pk_at (B0 B1 : IVec S32x128 8) (h0 : ∀ y, Small (B0 y)) (h1 : ∀ y, Small (B1 y)) (r : Fin 32) (l : Fin 128) :
    pk (bitcast S8x128 32 B0 bitcasts_S32x128_w8_S8x128_w32) (bitcast S8x128 32 B1 bitcasts_S32x128_w8_S8x128_w32) (ix2 r l)
      = (if l.val < 64 then B0 else B1) (ix2 r (loL l)) ||| ((if l.val < 64 then B0 else B1) (ix2 r (hiL l)) <<< 4) := by
  apply BitVec.eq_of_getLsbD_eq
  intro q hq
  unfold pk
  rw [bc_getLsbD _ _ r l q hq (by decide) ⟨r.val / 4, by omega⟩ (by show r.val / 4 = _; omega) (8 * (r.val % 4) + q) (by omega),
    gather_at, pairs_at]
  generalize loL l = lo
  generalize hiL l = hi
  have key : ∀ B : IVec S32x128 8, (∀ y, Small (B y)) →
      (bitcast S8x128 32 B bitcasts_S32x128_w8_S8x128_w32 (ix2 ⟨r.val / 4, by omega⟩ lo)
        ||| (bitcast S8x128 32 B bitcasts_S32x128_w8_S8x128_w32 (ix2 ⟨r.val / 4, by omega⟩ hi) <<< 4)).getLsbD (8 * (r.val % 4) + q)
      = (B (ix2 r lo) ||| (B (ix2 r hi) <<< 4)).getLsbD q := by
    intro B hB
    rw [BitVec.getLsbD_or, BitVec.getLsbD_or, BitVec.getLsbD_shiftLeft, BitVec.getLsbD_shiftLeft,
      bc_getLsbD B _ ⟨r.val / 4, by omega⟩ lo (8 * (r.val % 4) + q) (by omega) (by decide) r (by show _ = (r.val / 4 * 32 + _) / 8; omega) q
        (by show _ = (r.val / 4 * 32 + _) % 8; omega)]
    congr 1
    by_cases h4 : 4 ≤ q
    · rw [bc_getLsbD B _ ⟨r.val / 4, by omega⟩ hi (8 * (r.val % 4) + q - 4) (by omega) (by decide) r (by show _ = (r.val / 4 * 32 + _) / 8; omega) (q - 4)
        (by show _ = (r.val / 4 * 32 + _) % 8; omega)]
      simp [hq, show ¬ q < 4 by omega, show ¬ (8 * (r.val % 4) + q < 4) by omega, show 8 * (r.val % 4) + q < 32 by omega]
    · by_cases hk : r.val % 4 = 0
      · simp [hk, show q < 4 by omega]
      · rw [bc_getLsbD B _ ⟨r.val / 4, by omega⟩ hi (8 * (r.val % 4) + q - 4) (by omega) (by decide) ⟨r.val - 1, by omega⟩
          (by show r.val - 1 = (r.val / 4 * 32 + _) / 8; omega) (q + 4) (by show _ = (r.val / 4 * 32 + _) % 8; omega),
          hB _ (q + 4) (by omega)]
        simp [show q < 4 by omega]
  by_cases h : l.val < 64
  · simp only [if_pos h]; exact key B0 h0
  · simp only [if_neg h]; exact key B1 h1

/-- The signed number in four bits of a byte: the low four, or the high four. -/
def nibOf (hi : Bool) (b : BitVec 8) : BitVec 16 :=
  (if hi then (b >>> 4).setWidth 4 else b.setWidth 4).signExtend 16

theorem word_of (b : BitVec 8) :
    (((IntOp.ori (IntOp.andi (IntOp.shli .vector (b.setWidth 32) 24#32) 4026531840#32)
        (IntOp.andi (IntOp.shli .vector (b.setWidth 32) 12#32) 61440#32)).extractLsb' 0 16).sshiftRight 12 = nibOf false b) ∧
    (((IntOp.ori (IntOp.andi (IntOp.shli .vector (b.setWidth 32) 24#32) 4026531840#32)
        (IntOp.andi (IntOp.shli .vector (b.setWidth 32) 12#32) 61440#32)).extractLsb' 16 16).sshiftRight 12 = nibOf true b) := by
  revert b
  decide +kernel

theorem bc32_16 (x : IVec S64x256 32) (r : Fin 128) (l : Fin 256) :
    bitcast S128x256 16 x bitcasts_S64x256_w32_S128x256_w16 (ix2 r l)
      = (x (ix2 ⟨r.val / 2, by omega⟩ l)).extractLsb' (16 * (r.val % 2)) 16 := by
  apply BitVec.eq_of_getLsbD_eq
  intro q hq
  rw [bc_getLsbD _ _ r l q hq (by decide) ⟨r.val / 2, by omega⟩ (by show r.val / 2 = _; omega) (16 * (r.val % 2) + q) (by omega),
    BitVec.getLsbD_extractLsb']
  simp [hq]

/-- The unpacked weights at an index: rows alternate between the low and the high four bits of the rows of bytes. -/
theorem nib_at (v : IVec S1x64x256 8) (r : Fin 128) (l : Fin 256) :
    nib v (ix2 r l) = nibOf (decide (r.val % 2 = 1)) (v (ix3 0 ⟨r.val / 2, by omega⟩ l)) := by
  pointwise [nib]
  rw [bc32_16]
  pointwise []
  have w := word_of (v (ix3 0 ⟨r.val / 2, by omega⟩ l))
  have sr : ∀ x : BitVec 16, IntOp.shrsi .vector x 12#16 = x.sshiftRight 12 := fun x => rfl
  rcases Nat.mod_two_eq_zero_or_one r.val with h | h
  · simp only [h]
    exact w.1
  · simp only [h]
    exact w.2

end Cert.KernelIdeal.Val

end
-- ==== Proof.Value.Quant.lean ====
/- The four-bit quantiser of one group of 128 numbers, over the extended reals: its scale, its zero point and its codes, and that the
   kernel's arithmetic (reciprocals, a rounding constant added and taken off) computes exactly these. -/
module

public import proofs.«01_k».proof.Proof.Value.Bytes
public import proofs.«01_k».proof.Proof.Value.Trips2

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

/-- Round to nearest, ties to even. -/
def rd (x : EReal) : EReal := Ideal.liftRound Ideal.roundHalfEven x

/-- The smallest number of a group, at most zero. -/
def gLo (w : Fin 128 → EReal) : EReal := min 0 (Finset.fold min (Ideal.ofBits FTy.f32 2139095040#32) w Finset.univ)
/-- The largest number of a group, at least zero. -/
def gHi (w : Fin 128 → EReal) : EReal := max 0 (Finset.fold max (Ideal.ofBits FTy.f32 4286578688#32) w Finset.univ)

/-- The scale that sixteen steps cover a range with. -/
def sc (lo hi : EReal) : EReal := if hi = lo then 1 else Ideal.div (hi - lo) ((15 : ℝ) : EReal)

/-- A group's scale. -/
def gS (w : Fin 128 → EReal) : EReal := sc (gLo w) (gHi w)

theorem gLo_le_zero (w : Fin 128 → EReal) : gLo w ≤ 0 := min_le_left _ _
theorem zero_le_gHi (w : Fin 128 → EReal) : 0 ≤ gHi w := le_max_left _ _
theorem gLo_le (w : Fin 128 → EReal) (l : Fin 128) : gLo w ≤ w l :=
  (min_le_right _ _).trans (Finset.fold_min_le _ |>.2 (.inr ⟨l, Finset.mem_univ _, le_rfl⟩))
theorem le_gHi (w : Fin 128 → EReal) (l : Fin 128) : w l ≤ gHi w :=
  (Finset.le_fold_max _ |>.2 (.inr ⟨l, Finset.mem_univ _, le_rfl⟩) : w l ≤ Finset.fold max _ w Finset.univ).trans (le_max_right _ _)

theorem roundHalfEven_nonneg {r : ℝ} (h : 0 ≤ r) : 0 ≤ Ideal.roundHalfEven r := by
  have h0 : 0 ≤ ⌊r⌋ := Int.floor_nonneg.2 h
  unfold Ideal.roundHalfEven
  dsimp only
  split_ifs <;> omega

theorem roundHalfEven_le {r : ℝ} (h : r ≤ 15) : Ideal.roundHalfEven r ≤ 15 := by
  have hlt : (⌊r⌋ : ℝ) ≤ r := Int.floor_le r
  unfold Ideal.roundHalfEven
  dsimp only
  by_cases h15 : ⌊r⌋ = 15
  · have e : r - (⌊r⌋ : ℝ) < 1 / 2 := by rw [h15]; norm_num; linarith
    rw [if_pos e, h15]
  · have : ⌊r⌋ ≤ 15 := by
      have : (⌊r⌋ : ℝ) ≤ ((15 : ℤ) : ℝ) := by push_cast; linarith
      exact_mod_cast this
    split_ifs <;> omega

/-- What the quantiser divides by is not zero; the zero point is one of sixteen integers; every quotient rounds to an integer. -/
theorem quant (lo hi : EReal) (hlo : lo ≤ 0) (hhi : 0 ≤ hi) :
    sc lo hi ≠ 0 ∧ (∃ n : ℕ, n ≤ 15 ∧ rd (Ideal.div (-lo) (sc lo hi)) = ((n : ℝ) : EReal)) ∧
      ∀ v, lo ≤ v → v ≤ hi → ∃ q : ℤ, rd (Ideal.div v (sc lo hi)) = ((q : ℝ) : EReal) := by
  have top : sc lo hi = ⊤ → sc lo hi ≠ 0 ∧ (∃ n : ℕ, n ≤ 15 ∧ rd (Ideal.div (-lo) (sc lo hi)) = ((n : ℝ) : EReal)) ∧
      ∀ v, lo ≤ v → v ≤ hi → ∃ q : ℤ, rd (Ideal.div v (sc lo hi)) = ((q : ℝ) : EReal) := by
    intro e
    have z : ∀ v, rd (Ideal.div v ⊤) = ((0 : ℝ) : EReal) := by
      intro v
      have : Ideal.div v ⊤ = ((0 : ℝ) : EReal) := by
        unfold Ideal.div
        rw [if_neg (by simp), EReal.inv_top, mul_zero]; rfl
      rw [this]
      unfold rd
      rw [Ideal.liftRound_coe]
      simp [Ideal.roundHalfEven]
    rw [e]
    exact ⟨by simp, ⟨0, by omega, by rw [z]; simp⟩, fun v _ _ => ⟨0, by rw [z]; simp⟩⟩
  have tdiv : Ideal.div ⊤ ((15 : ℝ) : EReal) = ⊤ := by
    unfold Ideal.div
    rw [if_neg (by norm_num), ← EReal.coe_inv, EReal.top_mul_coe_of_pos (by norm_num)]
  induction lo using EReal.rec with
  | top => exact absurd hlo (by simp)
  | bot =>
    apply top
    unfold sc
    have h1 : hi ≠ ⊥ := fun h => by rw [h] at hhi; simp at hhi
    have h2 : hi - ⊥ = ⊤ := by rw [sub_eq_add_neg, EReal.neg_bot, EReal.add_top_of_ne_bot h1]
    rw [if_neg h1, h2, tdiv]
  | coe a =>
    induction hi using EReal.rec with
    | bot => exact absurd hhi (by simp)
    | top =>
      apply top
      unfold sc
      rw [if_neg (by simp), EReal.top_sub_coe, tdiv]
    | coe b =>
      have ha : a ≤ 0 := by exact_mod_cast hlo
      have hb : 0 ≤ b := by exact_mod_cast hhi
      have hs : ∃ t : ℝ, sc (a : EReal) (b : EReal) = (t : EReal) ∧ 0 < t ∧ -a / t ≤ 15 := by
        unfold sc
        by_cases hab : b = a
        · rw [if_pos (by rw [hab])]
          have : a = 0 := by linarith
          exact ⟨1, rfl, one_pos, by rw [this]; norm_num⟩
        · rw [if_neg (by exact_mod_cast hab)]
          have hlt : 0 < b - a := by
            rcases lt_or_eq_of_le (show a ≤ b by linarith) with h | h
            · linarith
            · exact absurd h.symm hab
          refine ⟨(b - a) / 15, ?_, by positivity, ?_⟩
          · unfold Ideal.div
            rw [if_neg (by norm_num), ← EReal.coe_inv, ← EReal.coe_sub, ← EReal.coe_mul, div_eq_mul_inv]
          · rw [div_le_iff₀ (by positivity)]
            linarith
      obtain ⟨t, et, ht, h15⟩ := hs
      have d : ∀ v : ℝ, Ideal.div (v : EReal) (t : EReal) = ((v / t : ℝ) : EReal) := by
        intro v
        unfold Ideal.div
        rw [if_neg (by exact_mod_cast ht.ne'), ← EReal.coe_inv, ← EReal.coe_mul, div_eq_mul_inv]
      rw [et]
      refine ⟨by exact_mod_cast ht.ne', ?_, ?_⟩
      · have n0 := roundHalfEven_nonneg (r := -a / t) (div_nonneg (by linarith) ht.le)
        have n15 := roundHalfEven_le h15
        refine ⟨(Ideal.roundHalfEven (-a / t)).toNat, by omega, ?_⟩
        rw [← EReal.coe_neg, d]
        unfold rd
        rw [Ideal.liftRound_coe]
        congr 1
        have : (((Ideal.roundHalfEven (-a / t)).toNat : ℤ) : ℝ) = ((Ideal.roundHalfEven (-a / t) : ℤ) : ℝ) := by rw [Int.toNat_of_nonneg n0]
        rw [← this]; exact (Int.cast_natCast _).symm
      · intro v h1 h2
        induction v using EReal.rec with
        | bot => exact absurd h1 (by simp)
        | top => exact absurd h2 (by simp)
        | coe v => exact ⟨_, by rw [d]; rfl⟩

theorem gS_ne_zero (w : Fin 128 → EReal) : gS w ≠ 0 := (quant _ _ (gLo_le_zero w) (zero_le_gHi w)).1

/-- A group's zero point. -/
def gN (w : Fin 128 → EReal) : ℕ := (quant _ _ (gLo_le_zero w) (zero_le_gHi w)).2.1.choose
theorem gN_le (w : Fin 128 → EReal) : gN w ≤ 15 := (quant _ _ (gLo_le_zero w) (zero_le_gHi w)).2.1.choose_spec.1
theorem gN_eq (w : Fin 128 → EReal) : rd (Ideal.div (-gLo w) (gS w)) = ((gN w : ℝ) : EReal) :=
  (quant _ _ (gLo_le_zero w) (zero_le_gHi w)).2.1.choose_spec.2

/-- The integer a number of a group rounds to, in steps. -/
def gQ (w : Fin 128 → EReal) (l : Fin 128) : ℤ := ((quant _ _ (gLo_le_zero w) (zero_le_gHi w)).2.2 (w l) (gLo_le w l) (le_gHi w l)).choose
theorem gQ_eq (w : Fin 128 → EReal) (l : Fin 128) : rd (Ideal.div (w l) (gS w)) = ((gQ w l : ℝ) : EReal) :=
  ((quant _ _ (gLo_le_zero w) (zero_le_gHi w)).2.2 (w l) (gLo_le w l) (le_gHi w l)).choose_spec

/-- The code of a number of a group. -/
def gC (w : Fin 128 → EReal) (l : Fin 128) : ℕ := (min 15 (max 0 (gQ w l + gN w))).toNat
theorem gC_le (w : Fin 128 → EReal) (l : Fin 128) : gC w l ≤ 15 := by unfold gC; omega
theorem gC_int (w : Fin 128 → EReal) (l : Fin 128) : ((gC w l : ℕ) : ℤ) = min 15 (max 0 (gQ w l + gN w)) := by unfold gC; omega

theorem coe_max' (a b : ℝ) : max (a : EReal) (b : EReal) = ((max a b : ℝ) : EReal) := (EReal.coe_strictMono.monotone.map_max).symm
theorem coe_min' (a b : ℝ) : min (a : EReal) (b : EReal) = ((min a b : ℝ) : EReal) := (EReal.coe_strictMono.monotone.map_min).symm

theorem gC_real (w : Fin 128 → EReal) (l : Fin 128) : ((gC w l : ℕ) : ℝ) = min 15 (max 0 ((gQ w l : ℝ) + (gN w : ℝ))) := by
  have h : (((gC w l : ℕ) : ℤ) : ℝ) = ((min 15 (max 0 (gQ w l + gN w)) : ℤ) : ℝ) := by rw [gC_int]
  push_cast at h
  exact h

/-- The code, clamped between zero and fifteen. -/
theorem gC_plain (w : Fin 128 → EReal) (l : Fin 128) :
    min ((15 : ℝ) : EReal) (max ((0 : ℝ) : EReal) (((gQ w l : ℝ) : EReal) + ((gN w : ℝ) : EReal))) = ((gC w l : ℝ) : EReal) := by
  rw [← EReal.coe_add, coe_max', coe_min', gC_real]

/-- The code with a constant added before it is clamped. -/
theorem gC_biased (w : Fin 128 → EReal) (l : Fin 128) (M : ℝ) :
    min (max (((gQ w l : ℝ) : EReal) + (M : EReal) + ((gN w : ℝ) : EReal)) (M : EReal)) ((M + 15 : ℝ) : EReal)
      = ((M + gC w l : ℝ) : EReal) := by
  rw [← EReal.coe_add, ← EReal.coe_add, coe_max', coe_min', gC_real, ← min_add_add_left, ← max_add_add_left]
  congr 1
  rw [min_comm, max_comm, add_zero]
  congr 2
  ring

theorem lit15 : Ideal.ofBits .f32 1097859072#32 = ((15 : ℝ) : EReal) := by
  simp [Ideal.ofBits, Ideal.ieee, -EReal.coe_mul]; norm_num
theorem litM : Ideal.ofBits .f32 1262485504#32 = ((12582912 : ℝ) : EReal) := by
  simp [Ideal.ofBits, Ideal.ieee, -EReal.coe_mul]
theorem litM15 : Ideal.ofBits .f32 1262485519#32 = ((12582912 + 15 : ℝ) : EReal) := by
  rw [show (12582912 + 15 : ℝ) = 12582927 by norm_num]
  simp [Ideal.ofBits, Ideal.ieee, -EReal.coe_mul]

/-- A product with a reciprocal is the quotient. -/
theorem mul_recip {x y : EReal} (hy : y ≠ 0) : x * Ideal.div 1 y = Ideal.div x y := by
  unfold Ideal.div; rw [if_neg hy, if_neg hy, one_mul]

/-- A small natural number converted to a signed word. -/
theorem fptosi_nat {n : ℕ} (h : n ≤ 15) : Ideal.fptosi 32 ((n : ℝ) : EReal) = BitVec.ofNat 32 n := by
  unfold Ideal.fptosi
  rw [Ideal.toIntClamped_coe, if_pos (by positivity)]
  have : ⌊(n : ℝ)⌋ = (n : ℤ) := by simp
  rw [this]
  interval_cases n <;> rfl

/-- One row of a block. -/
abbrev row (v : FVec Ideal S32x128 .f32) (r : Fin 32) : Fin 128 → EReal := fun l => v (ix2 r l)

theorem qLo_at (v : FVec Ideal S32x128 .f32) (r : Fin 32) : qLo v (ix2 r 0) = gLo (row v r) := by
  pointwise [qLo]
  rfl
theorem qHi_at (v : FVec Ideal S32x128 .f32) (r : Fin 32) : qHi v (ix2 r 0) = gHi (row v r) := by
  pointwise [qHi]
  rfl
theorem qS_at (v : FVec Ideal S32x128 .f32) (r : Fin 32) : qS v (ix2 r 0) = gS (row v r) := by
  pointwise [qS]
  rw [qLo_at, qHi_at, lit15]
  rfl
theorem qZ_at (v : FVec Ideal S32x128 .f32) (r : Fin 32) : qZ v (ix2 r 0) = ((gN (row v r) : ℝ) : EReal) := by
  pointwise [qZ, qR]
  rw [qLo_at, qS_at, mul_recip (gS_ne_zero _), zero_sub, ← gN_eq]
  rfl
theorem qC_at (v : FVec Ideal S32x128 .f32) (r : Fin 32) (l : Fin 128) : qC v (ix2 r l) = ((12582912 + gC (row v r) l : ℝ) : EReal) := by
  rw [← gC_biased, ← gQ_eq, ← qZ_at, ← litM, ← litM15]
  pointwise [qC, qR]
  rw [qS_at, mul_recip (gS_ne_zero _)]
  rfl
theorem qA_at (v : FVec Ideal S32x128 .f32) (r : Fin 32) (l : Fin 128) :
    qA v (ix2 r l) = ((((gC (row v r) l : ℤ) - (gN (row v r) : ℤ) : ℤ) : ℝ) : EReal) * gS (row v r) := by
  pointwise [qA]
  rw [qC_at, qZ_at, qS_at, litM, ← EReal.coe_add, ← EReal.coe_sub]
  congr 2
  push_cast
  ring
theorem qB8_at (v : FVec Ideal S32x128 .f32) (r : Fin 32) (l : Fin 128) : qB8 v (ix2 r l) = BitVec.ofNat 8 (gC (row v r) l) := by
  pointwise [qB8]
  rw [qC_at, litM, ← EReal.coe_sub, add_sub_cancel_left]
  have h := gC_le (row v r) l
  rw [show FloatOps.fptosi (F := Ideal) (φ := .f32) 32 ((gC (row v r) l : ℝ) : EReal) = _ from fptosi_nat h]
  generalize gC (row v r) l = n at h
  interval_cases n <;> rfl
theorem zp_at (v : FVec Ideal S32x128 .f32) (r : Fin 32) :
    trunci 8 (fptosi 32 (qZ v)) natLt_8_32 (ix2 r 0) = BitVec.ofNat 8 (gN (row v r)) := by
  pointwise []
  rw [qZ_at]
  have h := gN_le (row v r)
  rw [show FloatOps.fptosi (F := Ideal) (φ := .f32) 32 ((gN (row v r) : ℝ) : EReal) = _ from fptosi_nat h]
  generalize gN (row v r) = n at h
  interval_cases n <;> rfl

theorem qB8_small (v : FVec Ideal S32x128 .f32) (y : S32x128.Idx) : Small (qB8 v y) := by
  have e : y = ix2 (y 0) (y 1) := by funext a; match a with | ⟨0, _⟩ => rfl | ⟨1, _⟩ => rfl
  rw [e]
  exact (qB8_at v (y 0) (y 1)) ▸ small_of_lt (gC_le _ _)

/-- Two codes in one byte. -/
def pair8 (a b : ℕ) : BitVec 8 := BitVec.ofNat 8 a ||| (BitVec.ofNat 8 b <<< 4)

/-- The packed codes of two groups at an index. -/
theorem pkq_at (v0 v1 : FVec Ideal S32x128 .f32) (r : Fin 32) (l : Fin 128) :
    pk (qB v0) (qB v1) (ix2 r l)
      = pair8 (gC (row (if l.val < 64 then v0 else v1) r) (loL l)) (gC (row (if l.val < 64 then v0 else v1) r) (hiL l)) := by
  unfold qB
  rw [pk_at _ _ (qB8_small v0) (qB8_small v1)]
  by_cases h : l.val < 64
  · simp only [if_pos h, qB8_at]; rfl
  · simp only [if_neg h, qB8_at]; rfl

end Cert.KernelIdeal.Val

end
-- ==== Proof.Value.Spec.lean ====
/- What the seven results are, as functions of the three arguments over the extended reals: the activations quantised in groups of 128,
   the two products with the dequantised weights, the gated product, and its quantisation in groups of 128. -/
module

public import proofs.«01_k».proof.Proof.Value.Quant
public import proofs.«01_k».proof.Proof.Value.Loop1

@[expose] public section

noncomputable section

namespace Cert.Spec

open Idealize.ShloMosaic
open Cert.KernelIdeal.Val

/-- The column at one lane of one group. -/
def gl {n : ℕ} (g : Fin n) (l : Fin 128) : Fin (n * 128) := ⟨g.val * 128 + l.val, by have := g.isLt; have := l.isLt; nlinarith⟩

theorem cg_gl {n : ℕ} (g : Fin n) (l : Fin 128) : cg (gl g l) = g := Fin.ext (by unfold cg gl; dsimp only; omega)
theorem cl_gl {n : ℕ} (g : Fin n) (l : Fin 128) : cl (gl g l) = l := Fin.ext (by unfold cl gl; dsimp only; omega)
theorem gl_cg_cl {n : ℕ} (c : Fin (n * 128)) : gl (cg c) (cl c) = c := Fin.ext (by unfold cg cl gl; dsimp only; omega)

/-- One group of a row. -/
def grp {n : ℕ} (v : Fin 768 → Fin (n * 128) → EReal) (r : Fin 768) (g : Fin n) : Fin 128 → EReal := fun l => v r (gl g l)

/-- The number a group's code stands for. -/
def deq (w : Fin 128 → EReal) (l : Fin 128) : EReal := ((((gC w l : ℤ) - (gN w : ℤ) : ℤ) : ℝ) : EReal) * gS w

/-- The two codes a byte holds: those of two neighbouring lanes. -/
def codes (w : Fin 128 → EReal) (j : Fin 64) : BitVec 8 :=
  pair8 (gC w ⟨2 * j.val, by omega⟩) (gC w ⟨2 * j.val + 1, by omega⟩)

/-- The quantised activations' values. -/
def av (x : Fin 768 → Fin 2048 → EReal) (r : Fin 768) (k : Fin 2048) : EReal := deq (grp (n := 16) x r (cg (n := 16) k)) (cl (n := 16) k)

/-- The weights' values: the low four bits of a byte are an even row, the high four the next. -/
def wv (W : Fin 1024 → Fin 2 → Fin 5632 → BitVec 8) (S : Fin 16 → Fin 2 → Fin 5632 → EReal) (p : Fin 2) (k : Fin 2048) (n : Fin 5632) : EReal :=
  (((nibOf (decide (k.val % 2 = 1)) (W ⟨k.val / 2, by omega⟩ p n)).toInt : ℝ) : EReal) * S (cg (n := 16) k) p n

/-- The two products. -/
def pr (x : Fin 768 → Fin 2048 → EReal) (W : Fin 1024 → Fin 2 → Fin 5632 → BitVec 8) (S : Fin 16 → Fin 2 → Fin 5632 → EReal)
    (p : Fin 2) (r : Fin 768) (n : Fin 5632) : EReal := ∑ k : Fin 2048, av x r k * wv W S p k n

/-- The gate. -/
def silu (a b : EReal) : EReal := Ideal.div a (1 + Ideal.exp (-a)) * b

/-- The gated product. -/
def hv (x : Fin 768 → Fin 2048 → EReal) (W : Fin 1024 → Fin 2 → Fin 5632 → BitVec 8) (S : Fin 16 → Fin 2 → Fin 5632 → EReal)
    (r : Fin 768) (n : Fin 5632) : EReal := silu (pr x W S 0 r n) (pr x W S 1 r n)

/-- The packed codes of row `r`: byte `c` holds the codes of the numbers `2c` (low half) and `2c + 1` (high half). -/
def pkv {n : ℕ} (v : Fin 768 → Fin (n * 128) → EReal) (r : Fin 768) (c : Fin (n * 64)) : BitVec 8 :=
  pair8 (gC (grp v r ⟨c.val / 64, by omega⟩) ⟨2 * (c.val % 64), by omega⟩)
    (gC (grp v r ⟨c.val / 64, by omega⟩) ⟨2 * (c.val % 64) + 1, by omega⟩)

end Cert.Spec

end
-- ==== Proof.Value.KerA.lean ====
/- What the kernel leaves, at an index, as functions of the three arguments: the quantised activations, the dequantised weights, the
   products, the gated products and their codes. -/
module

public import proofs.«01_k».proof.Proof.Value.Spec
public import proofs.«01_k».proof.Proof.Value.Loop2
public import proofs.«01_k».proof.Proof.Value.Deq

@[expose] public section

noncomputable section

namespace Cert.KernelIdeal.Val

open Idealize.ShloMosaic Idealize.ShloMosaic.TcCoe Idealize.ShloMosaic.Tactic
open Cert.KernelIdeal Cert.KernelIdeal.Gen Cert.Spec

/-- A block of activations as rows and columns. -/
abbrev xk (X : Vec Ideal S768x2048 .bf16) : Fin 768 → Fin 2048 → EReal := fun r k => X (ix2 r k)

theorem rb_rl (r : Fin 768) (h : 32 * (rb r).val + (rl r).val < 768) : (⟨32 * (rb r).val + (rl r).val, h⟩ : Fin 768) = r :=
  Fin.ext (by unfold rb rl; dsimp only; omega)

theorem row_blkX (X : Vec Ideal S768x2048 .bf16) (r : Fin 768) (g : Fin 16) : row (blkX X (rb r) g) (rl r) = grp (n := 16) (xk X) r g := by
  funext l
  exact congrArg X (congrArg₂ ix2 (rb_rl r _) (Fin.ext (by show 128 * g.val + l.val = g.val * 128 + l.val; omega)))

theorem aT_av (X : Vec Ideal S768x2048 .bf16) (r : Fin 768) (k : Fin 2048) : aT X (ix2 r k) = av (xk X) r k := by
  refine (qA_at (blkX X (rb r) (cg (n := 16) k)) (rl r) (cl (n := 16) k)).trans ?_
  rw [row_blkX]
  rfl

theorem acT_pkv (X : Vec Ideal S768x2048 .bf16) (r : Fin 768) (c : Fin 1024) : acT X (ix2 r c) = pkv (n := 16) (xk X) r c := by
  refine (pkq_at (blkX X (rb r) (ev (cg (n := 8) c))) (blkX X (rb r) (od (cg (n := 8) c))) (rl r) (cl (n := 8) c)).trans ?_
  have e : row (if (cl (n := 8) c).val < 64 then blkX X (rb r) (ev (cg (n := 8) c)) else blkX X (rb r) (od (cg (n := 8) c))) (rl r)
      = grp (n := 16) (xk X) r ⟨c.val / 64, by omega⟩ := by
    split
    · rename_i h
      rw [row_blkX]
      congr 1
      exact Fin.ext (by unfold cl at h; unfold ev cg; dsimp only at h ⊢; omega)
    · rename_i h
      rw [row_blkX]
      congr 1
      exact Fin.ext (by unfold cl at h; unfold od cg; dsimp only at h ⊢; omega)
  rw [e]
  have e1 : loL (cl (n := 8) c) = (⟨2 * (c.val % 64), by omega⟩ : Fin 128) := Fin.ext (by unfold loL cl; dsimp only; omega)
  have e2 : hiL (cl (n := 8) c) = (⟨2 * (c.val % 64) + 1, by omega⟩ : Fin 128) := Fin.ext (by unfold hiL cl; dsimp only; omega)
  rw [e1, e2]
  rfl

theorem asT_gS (X : Vec Ideal S768x2048 .bf16) (r : Fin 768) (g : Fin 16) : asT X (ix2 r g) = gS (grp (n := 16) (xk X) r g) :=
  (qS_at _ (rl r)).trans (congrArg gS (row_blkX X r g))

theorem azT_gN (X : Vec Ideal S768x2048 .bf16) (r : Fin 768) (g : Fin 16) : azT X (ix2 r g) = BitVec.ofNat 8 (gN (grp (n := 16) (xk X) r g)) :=
  (zp_at _ (rl r)).trans (congrArg (fun w => BitVec.ofNat 8 (gN w)) (row_blkX X r g))

theorem dq_at (v : IVec S1x64x256 8) (s : FVec Ideal S1x1x256 .f32) (r : Fin 128) (l : Fin 256) :
    dq v s (ix3 0 r l) = (((nib v (ix2 r l)).toInt : ℝ) : EReal) * s (ix3 0 0 l) := by
  pointwise [dq]
  rfl

theorem wbT_at (W : Vec Ideal S2x1024x256 .i8) (S : Vec Ideal S2x16x256 .f32) (p : Fin 2) (k : Fin 2048) (n : Fin 256) :
    wbT W S (ix3 p k n) = (((nibOf (decide (k.val % 2 = 1)) (W (ix3 p ⟨k.val / 2, by omega⟩ n))).toInt : ℝ) : EReal) * S (ix3 p (cg (n := 16) k) n) := by
  refine (dq_at (slabW W p (cg (n := 16) k)) (slabS S p (cg (n := 16) k)) (cl (n := 16) k) n).trans ?_
  rw [nib_at]
  have e1 : decide ((cl (n := 16) k).val % 2 = 1) = decide (k.val % 2 = 1) := by unfold cl; dsimp only; congr 1; exact propext (by omega)
  have e2 : ∀ h, slabW W p (cg (n := 16) k) (ix3 0 ⟨(cl (n := 16) k).val / 2, h⟩ n) = W (ix3 p ⟨k.val / 2, by omega⟩ n) := fun h =>
    congrArg (fun z => W (ix3 p z n)) (Fin.ext (by show 64 * (cg (n := 16) k).val + (cl (n := 16) k).val / 2 = k.val / 2; unfold cg cl; dsimp only; omega))
  rw [e1, e2]
  rfl

theorem pay_at (A : Vec Ideal S768x2048 .bf16) (B : Vec Ideal S1x2048x256 .bf16) (r : Fin 768) (n : Fin 256) :
    k0_pay1 A B (ix3 0 r n) = ∑ k : Fin 2048, A (ix2 r k) * B (ix3 0 k n) := by
  pointwise [k0_pay1]

theorem tT_at (A : Vec Ideal S768x2048 .bf16) (WB : Vec Ideal S2x2048x256 .bf16) (p : Fin 2) (r : Fin 768) (n : Fin 256) :
    tT A WB (ix3 p r n) = ∑ k : Fin 2048, A (ix2 r k) * WB (ix3 p k n) := pay_at A _ r n

/-- The gated products of a tile as rows and columns. -/
abbrev hk (T : Vec Ideal S2x768x256 .f32) : Fin 768 → Fin 256 → EReal := fun r n => silu (T (ix3 0 r n)) (T (ix3 1 r n))

theorem gate_at (t0 t1 : FVec Ideal S32x128 .f32) (r : Fin 32) (l : Fin 128) : gate t0 t1 (ix2 r l) = silu (t0 (ix2 r l)) (t1 (ix2 r l)) := by
  pointwise [gate]
  unfold silu
  rw [zero_sub]

theorem blkT_at (T : Vec Ideal S2x768x256 .f32) (b : Fin 2) (r : Fin 768) (h : Fin 2) (l : Fin 128) :
    blkT T b (rb r) h (ix2 (rl r) l) = T (ix3 b r (gl h l)) :=
  congrArg T (congrArg₂ (ix3 b) (rb_rl r _) (Fin.ext (by show 128 * h.val + l.val = h.val * 128 + l.val; omega)))

theorem gateT_at (T : Vec Ideal S2x768x256 .f32) (r : Fin 768) (h : Fin 2) (l : Fin 128) : gateT T (rb r) h (ix2 (rl r) l) = hk T r (gl h l) :=
  (gate_at _ _ (rl r) l).trans (congrArg₂ silu (blkT_at T 0 r h l) (blkT_at T 1 r h l))

theorem row_gate (T : Vec Ideal S2x768x256 .f32) (r : Fin 768) (h : Fin 2) : row (wide (gateT T (rb r) h)) (rl r) = grp (n := 2) (hk T) r h := by
  funext l
  exact gateT_at T r h l

theorem hT_val (T : Vec Ideal S2x768x256 .f32) (r : Fin 768) (n : Fin 256) : hT T (ix2 r n) = hk T r n :=
  (gateT_at T r (cg (n := 2) n) (cl (n := 2) n)).trans (congrArg (hk T r) (gl_cg_cl (n := 2) n))

theorem hcT_pkv (T : Vec Ideal S2x768x256 .f32) (r : Fin 768) (c : Fin 128) : hcT T (ix2 r c) = pkv (n := 2) (hk T) r c := by
  refine (pkq_at (wide (gateT T (rb r) 0)) (wide (gateT T (rb r) 1)) (rl r) c).trans ?_
  have e : row (if c.val < 64 then wide (gateT T (rb r) 0) else wide (gateT T (rb r) 1)) (rl r)
      = grp (n := 2) (hk T) r ⟨c.val / 64, by omega⟩ := by
    split
    · rename_i h
      rw [row_gate]
      congr 1
      exact Fin.ext (by show 0 = c.val / 64; omega)
    · rename_i h
      rw [row_gate]
      congr 1
      exact Fin.ext (by show 1 = c.val / 64; omega)
  rw [e]
  rfl

theorem hsT_val (j : ℕ) (T : Vec Ideal S2x768x256 .f32) (s : Vec Ideal S768x44 .f32) (r : Fin 768) (g : Fin 44) :
    hsT j T s (ix2 r g) = if g.val = 2 * j + 1 then gS (grp (n := 2) (hk T) r 1) else if g.val = 2 * j then gS (grp (n := 2) (hk T) r 0) else s (ix2 r g) := by
  unfold hsT
  rw [show qS (wide (gateT T (rb ((ix2 r g : S768x44.Idx) 0)) 1)) (ix2 (rl ((ix2 r g : S768x44.Idx) 0)) 0) = _ from (qS_at _ (rl r)).trans (congrArg gS (row_gate T r 1)),
    show qS (wide (gateT T (rb ((ix2 r g : S768x44.Idx) 0)) 0)) (ix2 (rl ((ix2 r g : S768x44.Idx) 0)) 0) = _ from (qS_at _ (rl r)).trans (congrArg gS (row_gate T r 0))]
  rfl

theorem hzT_val (j : ℕ) (T : Vec Ideal S2x768x256 .f32) (s : Vec Ideal S768x44 .i8) (r : Fin 768) (g : Fin 44) :
    hzT j T s (ix2 r g) = if g.val = 2 * j + 1 then BitVec.ofNat 8 (gN (grp (n := 2) (hk T) r 1))
      else if g.val = 2 * j then BitVec.ofNat 8 (gN (grp (n := 2) (hk T) r 0))
      else BitVec.setWidth 8 (Ideal.fptosi 32 (((((s (ix2 r g) : BitVec 8).setWidth 32).toInt : ℝ) : EReal))) := by
  unfold hzT
  rw [show trunci 8 (fptosi 32 (qZ (wide (gateT T (rb ((ix2 r g : S768x44.Idx) 0)) 1)))) natLt_8_32 (ix2 (rl ((ix2 r g : S768x44.Idx) 0)) 0) = _ from (zp_at _ (rl r)).trans (congrArg (fun w => BitVec.ofNat 8 (gN w)) (row_gate T r 1)),
    show trunci 8 (fptosi 32 (qZ (wide (gateT T (rb ((ix2 r g : S768x44.Idx) 0)) 0)))) natLt_8_32 (ix2 (rl ((ix2 r g : S768x44.Idx) 0)) 0) = _ from (zp_at _ (rl r)).trans (congrArg (fun w => BitVec.ofNat 8 (gN w)) (row_gate T r 0))]
  rfl

theorem z_again {n : ℕ} (h : n ≤ 15) : BitVec.setWidth 8 (Ideal.fptosi 32 (((((BitVec.ofNat 8 n).setWidth 32).toInt : ℝ) : EReal))) = BitVec.ofNat 8 n := by
  have e : (((BitVec.ofNat 8 n).setWidth 32).toInt : ℝ) = (n : ℝ) := by
    have e' : ((BitVec.ofNat 8 n).setWidth 32).toInt = (n : ℤ) := by interval_cases n <;> rfl
    rw [e', Int.cast_natCast]
  rw [e, fptosi_nat h]
  interval_cases n <;> rfl

end Cert.KernelIdeal.Val

end
-- ==== Proof.Value.KerB.lean ====
/- The kernel's blocks as pieces of the arguments, and the seven result arrays after its run. -/
module

public import proofs.«01_k».proof.Proof.Value.Run
public import proofs.«01_k».proof.Proof.Value.KerA
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Idealize.ShloMosaic.Pipeline (Dat)
open Cert.KernelIdeal Cert.KernelIdeal.Gen Cert.Spec

variable (m : (ℓ : Loc nD τ sig) → Buf (Elt Ideal) ℓ)

/-- The three arguments. -/
def b0 (c : Dev nD) : FVec Ideal S1x768x2048 .bf16 := m ((c : Thread nD τ).loc main_arg0)
def b1 (c : Dev nD) : IVec S1024x2x5632 8 := m ((c : Thread nD τ).loc main_arg1)
def b2 (c : Dev nD) : FVec Ideal S16x2x5632 .f32 := m ((c : Thread nD τ).loc main_arg2)

abbrev xm (c : Dev nD) : Fin 768 → Fin 2048 → EReal := fun r k => b0 m c (ix3 0 r k)
abbrev wm (c : Dev nD) : Fin 1024 → Fin 2 → Fin 5632 → BitVec 8 := fun j p n => b1 m c (ix3 j p n)
abbrev sm (c : Dev nD) : Fin 16 → Fin 2 → Fin 5632 → EReal := fun j p n => b2 m c (ix3 j p n)
abbrev hm (c : Dev nD) : Fin 768 → Fin 5632 → EReal := hv (xm m c) (wm m c) (sm m c)

/-- Where each window's block lies. -/
theorem idx : ∀ t : Fin cfg0.N, win0_0.index t = ![0, 0] ∧ win0_1.index t = ![0, 0, t.val] ∧ win0_2.index t = ![0, 0, t.val] ∧ win0_3.index t = ![0, t.val]
    ∧ win0_4.index t = ![0, 0] ∧ win0_5.index t = ![0, 0] ∧ win0_6.index t = ![0, 0] ∧ win0_7.index t = ![0, t.val] ∧ win0_8.index t = ![0, 0]
    ∧ win0_9.index t = ![0, 0] ∧ t.val < 22 :=
  (by decide +kernel : ∀ t : Fin grid0.N, _)

theorem lt22 (t : Fin cfg0.N) : t.val < 22 := (idx t).2.2.2.2.2.2.2.2.2.2

/-- The column of an array a tile's column is. -/
def col (t : Fin cfg0.N) (n : Fin 256) : Fin 5632 := ⟨256 * t.val + n.val, by have := lt22 t; omega⟩

theorem i0_at (c : Dev nD) (t : Fin cfg0.N) (r : Fin 768) (k : Fin 2048) : iblk m c 0 t (ix2 r k) = b0 m c (ix3 0 r k) := by
  have h0 := (idx t).1
  unfold b0
  blk_ext! [iblk, V, h0]

theorem x0_at (c : Dev nD) (r : Fin 768) (k : Fin 2048) : X0 m c (ix2 r k) = b0 m c (ix3 0 r k) := i0_at m c ⟨0, N_pos⟩ r k

theorem xk_X0 (c : Dev nD) : xk (X0 m c) = xm m c := funext fun r => funext fun k => x0_at m c r k

theorem w1_at (c : Dev nD) (t : Fin cfg0.N) (p : Fin 2) (j : Fin 1024) (n : Fin 256) : iblk m c 1 t (ix3 p j n) = b1 m c (ix3 j p (col t n)) := by
  have h0 := (idx t).2.1
  unfold b1 col
  blk_ext! [iblk, V, h0]

theorem s2_at (c : Dev nD) (t : Fin cfg0.N) (p : Fin 2) (j : Fin 16) (n : Fin 256) : iblk m c 2 t (ix3 p j n) = b2 m c (ix3 j p (col t n)) := by
  have h0 := (idx t).2.2.1
  unfold b2 col
  blk_ext! [iblk, V, h0]

/-- A tile of the two products. -/
theorem TT_at (c : Dev nD) (t : Fin cfg0.N) (p : Fin 2) (r : Fin 768) (n : Fin 256) :
    TT m c t (ix3 p r n) = pr (xm m c) (wm m c) (sm m c) p r (col t n) := by
  refine (tT_at (aT (X0 m c)) (wbT (iblk m c 1 t) (iblk m c 2 t)) p r n).trans ?_
  unfold pr
  refine Finset.sum_congr rfl fun k _ => ?_
  refine congrArg₂ (· * ·) ((aT_av (X0 m c) r k).trans (by rw [xk_X0])) ?_
  refine (wbT_at (iblk m c 1 t) (iblk m c 2 t) p k n).trans ?_
  unfold wv
  exact congrArg₂ (fun a b => (((nibOf (decide (k.val % 2 = 1)) a).toInt : ℝ) : EReal) * b) (w1_at m c t p _ n) (s2_at m c t p _ n)

theorem hk_TT (c : Dev nD) (t : Fin cfg0.N) (r : Fin 768) (n : Fin 256) : hk (TT m c t) r n = hm m c r (col t n) :=
  congrArg₂ silu (TT_at m c t 0 r n) (TT_at m c t 1 r n)

theorem grp_TT (c : Dev nD) (t : Fin cfg0.N) (r : Fin 768) (h : Fin 2) (g : Fin 44) (hg : g.val = 2 * t.val + h.val) :
    grp (n := 2) (hk (TT m c t)) r h = grp (n := 44) (hm m c) r g := by
  funext l
  refine (hk_TT m c t r (gl h l)).trans (congrArg (hm m c r) (Fin.ext ?_))
  show 256 * t.val + (h.val * 128 + l.val) = g.val * 128 + l.val
  omega

/-- The scales of the groups written so far. -/
theorem hsAt_at (c : Dev nD) (r : Fin 768) (g : Fin 44) : ∀ (n : ℕ) (hn : n < cfg0.N), g.val / 2 ≤ n → hsAt m c n hn (ix2 r g) = gS (grp (n := 44) (hm m c) r g)
  | 0, hn, h => by
    refine (hsT_val 0 _ _ r g).trans ?_
    rcases Nat.mod_two_eq_zero_or_one g.val with e | e
    · rw [if_neg (by omega), if_pos (by omega)]
      exact congrArg gS (grp_TT m c ⟨0, hn⟩ r 0 g (by show g.val = 2 * 0 + 0; omega))
    · rw [if_pos (by omega)]
      exact congrArg gS (grp_TT m c ⟨0, hn⟩ r 1 g (by show g.val = 2 * 0 + 1; omega))
  | n + 1, hn, h => by
    refine (hsT_val (n + 1) _ _ r g).trans ?_
    by_cases e1 : g.val = 2 * (n + 1) + 1
    · rw [if_pos e1]
      exact congrArg gS (grp_TT m c ⟨n + 1, hn⟩ r 1 g e1)
    · rw [if_neg e1]
      by_cases e0 : g.val = 2 * (n + 1)
      · rw [if_pos e0]
        exact congrArg gS (grp_TT m c ⟨n + 1, hn⟩ r 0 g e0)
      · rw [if_neg e0]
        exact hsAt_at c r g n (Nat.lt_of_succ_lt hn) (by omega)

/-- The zero points of the groups written so far. -/
theorem hzAt_at (c : Dev nD) (r : Fin 768) (g : Fin 44) : ∀ (n : ℕ) (hn : n < cfg0.N), g.val / 2 ≤ n →
    hzAt m c n hn (ix2 r g) = BitVec.ofNat 8 (gN (grp (n := 44) (hm m c) r g))
  | 0, hn, h => by
    refine (hzT_val 0 _ _ r g).trans ?_
    rcases Nat.mod_two_eq_zero_or_one g.val with e | e
    · rw [if_neg (by omega), if_pos (by omega)]
      exact congrArg (fun w => BitVec.ofNat 8 (gN w)) (grp_TT m c ⟨0, hn⟩ r 0 g (by show g.val = 2 * 0 + 0; omega))
    · rw [if_pos (by omega)]
      exact congrArg (fun w => BitVec.ofNat 8 (gN w)) (grp_TT m c ⟨0, hn⟩ r 1 g (by show g.val = 2 * 0 + 1; omega))
  | n + 1, hn, h => by
    refine (hzT_val (n + 1) _ _ r g).trans ?_
    by_cases e1 : g.val = 2 * (n + 1) + 1
    · rw [if_pos e1]
      exact congrArg (fun w => BitVec.ofNat 8 (gN w)) (grp_TT m c ⟨n + 1, hn⟩ r 1 g e1)
    · rw [if_neg e1]
      by_cases e0 : g.val = 2 * (n + 1)
      · rw [if_pos e0]
        exact congrArg (fun w => BitVec.ofNat 8 (gN w)) (grp_TT m c ⟨n + 1, hn⟩ r 0 g e0)
      · rw [if_neg e0, hzAt_at c r g n (Nat.lt_of_succ_lt hn) (by omega)]
        exact z_again (gN_le _)

/-- The seven results, entry by entry. -/
def p0 (c : Dev nD) : FVec Ideal S768x5632 .bf16 := fun y => hm m c (y 0) (y 1)
def p1 (c : Dev nD) : IVec S768x1024 8 := fun y => pkv (n := 16) (xm m c) (y 0) (y 1)
def p2 (c : Dev nD) : FVec Ideal S768x16 .f32 := fun y => gS (grp (n := 16) (xm m c) (y 0) (y 1))
def p3 (c : Dev nD) : IVec S768x16 8 := fun y => BitVec.ofNat 8 (gN (grp (n := 16) (xm m c) (y 0) (y 1)))
def p4 (c : Dev nD) : IVec S768x2816 8 := fun y => pkv (n := 44) (hm m c) (y 0) (y 1)
def p5 (c : Dev nD) : FVec Ideal S768x44 .f32 := fun y => gS (grp (n := 44) (hm m c) (y 0) (y 1))
def p6 (c : Dev nD) : IVec S768x44 8 := fun y => BitVec.ofNat 8 (gN (grp (n := 44) (hm m c) (y 0) (y 1)))

theorem acT_p1 (c : Dev nD) : acT (X0 m c) = p1 m c := by
  funext y
  obtain ⟨r, n, rfl⟩ : ∃ (r : Fin 768) (n : Fin 1024), y = ix2 r n := ⟨y 0, y 1, eq_ix2 y⟩
  exact (acT_pkv _ r n).trans (by rw [xk_X0]; rfl)
theorem asT_p2 (c : Dev nD) : asT (X0 m c) = p2 m c := by
  funext y
  obtain ⟨r, n, rfl⟩ : ∃ (r : Fin 768) (n : Fin 16), y = ix2 r n := ⟨y 0, y 1, eq_ix2 y⟩
  exact (asT_gS _ r n).trans (by rw [xk_X0]; rfl)
theorem azT_p3 (c : Dev nD) : azT (X0 m c) = p3 m c := by
  funext y
  obtain ⟨r, n, rfl⟩ : ∃ (r : Fin 768) (n : Fin 16), y = ix2 r n := ⟨y 0, y 1, eq_ix2 y⟩
  exact (azT_gN _ r n).trans (by rw [xk_X0]; rfl)
theorem hsAt_p5 (c : Dev nD) (n : ℕ) (hn : n < cfg0.N) (h : n = 21) : hsAt m c n hn = p5 m c := by
  funext y
  obtain ⟨r, g, rfl⟩ : ∃ (r : Fin 768) (g : Fin 44), y = ix2 r g := ⟨y 0, y 1, eq_ix2 y⟩
  exact hsAt_at m c r g n hn (by omega)
theorem hzAt_p6 (c : Dev nD) (n : ℕ) (hn : n < cfg0.N) (h : n = 21) : hzAt m c n hn = p6 m c := by
  funext y
  obtain ⟨r, g, rfl⟩ : ∃ (r : Fin 768) (g : Fin 44), y = ix2 r g := ⟨y 0, y 1, eq_ix2 y⟩
  exact hzAt_at m c r g n hn (by omega)
theorem hT_p0 (c : Dev nD) (t : Fin cfg0.N) (r : Fin 768) (n : Fin 256) : hT (TT m c t) (ix2 r n) = p0 m c (ix2 r (col t n)) :=
  (hT_val (TT m c t) r n).trans (hk_TT m c t r n)
theorem hcT_p4 (c : Dev nD) (t : Fin cfg0.N) (r : Fin 768) (n : Fin 128) (h : 128 * t.val + n.val < 2816) :
    hcT (TT m c t) (ix2 r n) = p4 m c (ix2 r ⟨128 * t.val + n.val, h⟩) := by
  refine (hcT_pkv (TT m c t) r n).trans ?_
  show _ = pkv (n := 44) (hm m c) r ⟨128 * t.val + n.val, h⟩
  have e : grp (n := 2) (hk (TT m c t)) r ⟨n.val / 64, by omega⟩ = grp (n := 44) (hm m c) r ⟨(128 * t.val + n.val) / 64, by omega⟩ :=
    grp_TT m c t r _ _ (by dsimp only; omega)
  have e2 : (128 * t.val + n.val) % 64 = n.val % 64 := by omega
  unfold pkv
  rw [e]
  simp only [e2]

end Cert.KernelIdeal.Val

end
-- ==== Proof.Value.KerC.lean ====
/- The seven result arrays after the kernel's run. -/
module

public import proofs.«01_k».proof.Proof.Value.KerB

@[expose] public section

set_option maxRecDepth 16384

noncomputable section

namespace Cert.KernelIdeal.Val

open Idealize.ShloMosaic Idealize.ShloMosaic.TcCoe Idealize.ShloMosaic.Tactic
open Idealize.ShloMosaic.Pipeline (Dat)
open Idealize.SL.Sem
open Cert.KernelIdeal Cert.KernelIdeal.Gen Cert.Spec

variable (m : (ℓ : Loc nD τ sig) → Buf (Elt Ideal) ℓ)

theorem final3 (c : Dev nD) : (dats m 0 c).arrAt 3 (cfgs 0).N = p0 m c := by
  refine (dats m 0 c).arrAt_eq_of_covers 3 _ (by decide +kernel) fun t _ y => ?_
  blk_simp
  rw [after_3]
  have h0 := (idx t).2.2.2.1
  obtain ⟨r, n, rfl⟩ : ∃ (r : Fin 768) (n : Fin 256), y = ix2 r n := ⟨y 0, y 1, eq_ix2 y⟩
  refine (hT_p0 m c t r n).trans ?_
  unfold col
  blk_ext [h0]

theorem final7 (c : Dev nD) : (dats m 0 c).arrAt 7 (cfgs 0).N = p4 m c := by
  refine (dats m 0 c).arrAt_eq_of_covers 7 _ (by decide +kernel) fun t _ y => ?_
  blk_simp
  rw [after_7]
  have h0 := (idx t).2.2.2.2.2.2.2.1
  have h1 := lt22 t
  obtain ⟨r, n, rfl⟩ : ∃ (r : Fin 768) (n : Fin 128), y = ix2 r n := ⟨y 0, y 1, eq_ix2 y⟩
  refine (hcT_p4 m c t r n (by omega)).trans ?_
  blk_ext [h0]

/-- The last grid point. -/
def tl : Fin cfg0.N := ⟨21, by rw [show cfg0.N = 22 from N_0]; decide⟩

theorem final4 (c : Dev nD) : (dats m 0 c).arrAt 4 (cfgs 0).N = p1 m c := by
  refine (dats m 0 c).arrAt_eq_of_after_last 4 tl (by decide +kernel) _ fun j => ?_
  blk_simp
  rw [after_4, acT_p1]
theorem final5 (c : Dev nD) : (dats m 0 c).arrAt 5 (cfgs 0).N = p2 m c := by
  refine (dats m 0 c).arrAt_eq_of_after_last 5 tl (by decide +kernel) _ fun j => ?_
  blk_simp
  rw [after_5, asT_p2]
theorem final6 (c : Dev nD) : (dats m 0 c).arrAt 6 (cfgs 0).N = p3 m c := by
  refine (dats m 0 c).arrAt_eq_of_after_last 6 tl (by decide +kernel) _ fun j => ?_
  blk_simp
  rw [after_6, azT_p3]
theorem final8 (c : Dev nD) : (dats m 0 c).arrAt 8 (cfgs 0).N = p5 m c := by
  refine (dats m 0 c).arrAt_eq_of_after_last 8 tl (by decide +kernel) _ fun j => ?_
  blk_simp
  rw [after_8]
  exact congrFun (hsAt_p5 m c _ _ rfl) j
theorem final9 (c : Dev nD) : (dats m 0 c).arrAt 9 (cfgs 0).N = p6 m c := by
  refine (dats m 0 c).arrAt_eq_of_after_last 9 tl (by decide +kernel) _ fun j => ?_
  blk_simp
  rw [after_9]
  exact congrFun (hzAt_p6 m c _ _ rfl) j

/-- The kernel's run: the seven results hold what the specification says and the arguments are unchanged. -/
theorem run_results (ρ : Dev nD → PrngReg) : θ_run defs (onTc (τ := τ) (main (F := Ideal))) ⟨m, fun _ => 0, ρ⟩ (fun r => ∀ c : Dev nD,
      r.2.mem ((c.tc : Thread nD τ).loc main_v3_0) = p0 m c
      ∧ r.2.mem ((c.tc : Thread nD τ).loc main_v3_1) = p1 m c
      ∧ r.2.mem ((c.tc : Thread nD τ).loc main_v3_2) = p2 m c
      ∧ r.2.mem ((c.tc : Thread nD τ).loc main_v3_3) = p3 m c
      ∧ r.2.mem ((c.tc : Thread nD τ).loc main_v3_4) = p4 m c
      ∧ r.2.mem ((c.tc : Thread nD τ).loc main_v3_5) = p5 m c
      ∧ r.2.mem ((c.tc : Thread nD τ).loc main_v3_6) = p6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from run_main m ρ
  · exact final3 m c
  · exact final4 m c
  · exact final5 m c
  · exact final6 m c
  · exact final7 m c
  · exact final8 m c
  · exact final9 m c

end Cert.KernelIdeal.Val

end
-- ==== Proof.Value.RefA.lean ====
/- The reference's two quantisations at an index: scales, zero points and codes of each group of 128. -/
module

public import proofs.«01_k».proof.Proof.Value.Spec
public import proofs.«01_k».proof.Proof.Gen.ReferenceIdeal.Run
public import Idealize.ShloMosaic.Lib.Tactic.CleanTypes

@[expose] public section

noncomputable section

namespace Cert.ReferenceIdeal.Value

open Idealize.ShloMosaic Idealize.ShloMosaic.TcCoe Idealize.ShloMosaic.Tactic
open Cert.ReferenceIdeal Cert.ReferenceIdeal.Gen
open Cert.KernelIdeal.Val Cert.Spec

theorem setWidth_nat {n : ℕ} (h : n ≤ 15) : BitVec.setWidth 8 (BitVec.ofNat 32 n) = BitVec.ofNat 8 n := by
  interval_cases n <;> rfl

theorem lo_gen16 (A : FVec Ideal S1x768x16x128 .f32) (r : Fin 768) (g : Fin 16) :
    (minimumf (broadcastInDim S1x768x16 ![] bcast_S_S1x768x16 (constant S_ .f32 0x00000000#32))
      (Host.reduce FloatOps.minimumf A (constant S_ .f32 0x7F800000#32) reducesTo_S1x768x16x128_S1x768x16_d3 h_S_)) (ix3 0 r g)
      = gLo (fun l => A (ix4 0 r g l)) := by
  have h : (Host.reduce FloatOps.minimumf A (constant S_ .f32 0x7F800000#32) reducesTo_S1x768x16x128_S1x768x16_d3 h_S_) (ix3 0 r g)
      = Finset.fold min (Ideal.ofBits FTy.f32 2139095040#32) (fun l => A (ix4 0 r g l)) Finset.univ := by
    pointwise []
  refine (ValueIdx.minimumf_apply _ _ _).trans (congrArg₂ min ?_ h)
  exact Ideal.ofBits_zero_f32

theorem hi_gen16 (A : FVec Ideal S1x768x16x128 .f32) (r : Fin 768) (g : Fin 16) :
    (maximumf (broadcastInDim S1x768x16 ![] bcast_S_S1x768x16 (constant S_ .f32 0x00000000#32))
      (Host.reduce FloatOps.maximumf A (constant S_ .f32 0xFF800000#32) reducesTo_S1x768x16x128_S1x768x16_d3 h_S_)) (ix3 0 r g)
      = gHi (fun l => A (ix4 0 r g l)) := by
  have h : (Host.reduce FloatOps.maximumf A (constant S_ .f32 0xFF800000#32) reducesTo_S1x768x16x128_S1x768x16_d3 h_S_) (ix3 0 r g)
      = Finset.fold max (Ideal.ofBits FTy.f32 4286578688#32) (fun l => A (ix4 0 r g l)) Finset.univ := by
    pointwise []
  refine (ValueIdx.maximumf_apply _ _ _).trans (congrArg₂ max ?_ h)
  exact Ideal.ofBits_zero_f32

theorem s_gen16 (A B : FVec Ideal S1x768x16 .f32) (r : Fin 768) (g : Fin 16) :
    (select (cmpf .oeq A B) (broadcastInDim S1x768x16 ![] bcast_S_S1x768x16 (id (constant S_ .f32 0x3F800000#32)))
      (Host.divf (subf A B) (broadcastInDim S1x768x16 ![] bcast_S_S1x768x16 (constant S_ .f32 0x41700000#32)))) (ix3 0 r g)
      = sc (B (ix3 0 r g)) (A (ix3 0 r g)) := by
  show Scalar.select (FloatOps.cmpf (F := Ideal) (φ := .f32) .oeq (A (ix3 0 r g)) (B (ix3 0 r g))) (Ideal.ofBits .f32 1065353216#32)
    (Ideal.div (A (ix3 0 r g) - B (ix3 0 r g)) (Ideal.ofBits .f32 1097859072#32)) = _
  generalize A (ix3 0 r g) = a
  generalize B (ix3 0 r g) = b
  rw [lit15]
  pointwise []
  rfl

theorem hb16 (X : FVec Ideal S1x768x16 .f32) (r : Fin 768) (g : Fin 16) (l : Fin 128) :
    (broadcastInDim S1x768x16x128 ![0, 1, 2, 3] bcast_S1x768x16x1_S1x768x16x128_0_1_2_3
      (broadcastInDim S1x768x16x1 ![0, 1, 2] bcast_S1x768x16_S1x768x16x1_0_1_2 X)) (ix4 0 r g l) = X (ix3 0 r g) := by
  pointwise []

theorem c_gen16 (A : FVec Ideal S1x768x16x128 .f32) (B C : FVec Ideal S1x768x16 .f32) (r : Fin 768) (g : Fin 16) (l : Fin 128) :
    (trunci 8 (fptosi 32 (minimumf (broadcastInDim S1x768x16x128 ![] bcast_S_S1x768x16x128 (id (constant S_ .f32 0x41700000#32)))
      (maximumf (broadcastInDim S1x768x16x128 ![] bcast_S_S1x768x16x128 (id (constant S_ .f32 0x00000000#32)))
        (addf (Host.roundeven (Host.divf A (broadcastInDim S1x768x16x128 ![0, 1, 2, 3] bcast_S1x768x16x1_S1x768x16x128_0_1_2_3
            (broadcastInDim S1x768x16x1 ![0, 1, 2] bcast_S1x768x16_S1x768x16x1_0_1_2 B))))
          (broadcastInDim S1x768x16x128 ![0, 1, 2, 3] bcast_S1x768x16x1_S1x768x16x128_0_1_2_3
            (broadcastInDim S1x768x16x1 ![0, 1, 2] bcast_S1x768x16_S1x768x16x1_0_1_2 C)))))) natLt_8_32 : IVec S1x768x16x128 8) (ix4 0 r g l)
      = BitVec.setWidth 8 (Ideal.fptosi 32 (min (Ideal.ofBits .f32 1097859072#32) (max (Ideal.ofBits .f32 0#32)
          (rd (Ideal.div (A (ix4 0 r g l)) (B (ix3 0 r g))) + C (ix3 0 r g))))) := by
  rw [← hb16 B r g l, ← hb16 C r g l]
  rfl

theorem z_gen16 (A B : FVec Ideal S1x768x16 .f32) (r : Fin 768) (g : Fin 16) :
    Host.roundeven (Host.divf (Host.negf A) B) (ix3 0 r g) = rd (Ideal.div (-(A (ix3 0 r g))) (B (ix3 0 r g))) := rfl

def f1 (V0 : Valuation τ sig (Elt Ideal)) : FVec Ideal S1x768x16x128 .f32 := res_main_v1 V0
def f4 (V0 : Valuation τ sig (Elt Ideal)) : FVec Ideal S1x768x16 .f32 := res_main_v4 V0
def f7 (V0 : Valuation τ sig (Elt Ideal)) : FVec Ideal S1x768x16 .f32 := res_main_v7 V0
def f12 (V0 : Valuation τ sig (Elt Ideal)) : FVec Ideal S1x768x16 .f32 := res_main_v12 V0
def f15 (V0 : Valuation τ sig (Elt Ideal)) : FVec Ideal S1x768x16 .f32 := res_main_v15 V0

theorem lo_4 (V0 : Valuation τ sig (Elt Ideal)) (r : Fin 768) (g : Fin 16) : f4 V0 (ix3 0 r g) = gLo (fun l => f1 V0 (ix4 0 r g l)) := by
  unfold f4 f1 res_main_v4
  exact lo_gen16 _ r g
theorem hi_7 (V0 : Valuation τ sig (Elt Ideal)) (r : Fin 768) (g : Fin 16) : f7 V0 (ix3 0 r g) = gHi (fun l => f1 V0 (ix4 0 r g l)) := by
  unfold f7 f1 res_main_v7
  exact hi_gen16 _ r g
/-- The scale of one group. -/
theorem s_12 (V0 : Valuation τ sig (Elt Ideal)) (r : Fin 768) (g : Fin 16) : f12 V0 (ix3 0 r g) = gS (fun l => f1 V0 (ix4 0 r g l)) := by
  unfold gS
  rw [← lo_4, ← hi_7]
  unfold f12 f4 f7 res_main_v12
  exact s_gen16 _ _ r g
/-- The zero point of one group. -/
theorem z_15 (V0 : Valuation τ sig (Elt Ideal)) (r : Fin 768) (g : Fin 16) :
    f15 V0 (ix3 0 r g) = ((gN (fun l => f1 V0 (ix4 0 r g l)) : ℝ) : EReal) := by
  rw [← gN_eq, ← lo_4, ← s_12]
  unfold f12 f4 f15 res_main_v15
  exact z_gen16 _ _ r g
theorem zb_15 (V0 : Valuation τ sig (Elt Ideal)) (r : Fin 768) (g : Fin 16) :
    (trunci 8 (fptosi 32 (f15 V0)) natLt_8_32 : IVec S1x768x16 8) (ix3 0 r g) = BitVec.ofNat 8 (gN (fun l => f1 V0 (ix4 0 r g l))) := by
  show BitVec.setWidth 8 (Ideal.fptosi 32 (f15 V0 (ix3 0 r g))) = _
  rw [z_15, fptosi_nat (gN_le _)]
  exact setWidth_nat (gN_le _)
/-- The code of one number of a group. -/
theorem code_1 (w : Fin 128 → EReal) (l : Fin 128) :
    BitVec.setWidth 8 (Ideal.fptosi 32 (min (Ideal.ofBits .f32 1097859072#32) (max (Ideal.ofBits .f32 0#32)
      (rd (Ideal.div (w l) (gS w)) + ((gN w : ℝ) : EReal))))) = BitVec.ofNat 8 (gC w l) := by
  rw [lit15, Ideal.ofBits_zero_f32, gQ_eq, ← EReal.coe_zero, gC_plain, fptosi_nat (gC_le _ _)]
  exact setWidth_nat (gC_le _ _)

theorem lo_gen44 (A : FVec Ideal S1x768x44x128 .f32) (r : Fin 768) (g : Fin 44) :
    (minimumf (broadcastInDim S1x768x44 ![] bcast_S_S1x768x44 (constant S_ .f32 0x00000000#32))
      (Host.reduce FloatOps.minimumf A (constant S_ .f32 0x7F800000#32) reducesTo_S1x768x44x128_S1x768x44_d3 h_S_)) (ix3 0 r g)
      = gLo (fun l => A (ix4 0 r g l)) := by
  have h : (Host.reduce FloatOps.minimumf A (constant S_ .f32 0x7F800000#32) reducesTo_S1x768x44x128_S1x768x44_d3 h_S_) (ix3 0 r g)
      = Finset.fold min (Ideal.ofBits FTy.f32 2139095040#32) (fun l => A (ix4 0 r g l)) Finset.univ := by
    pointwise []
  refine (ValueIdx.minimumf_apply _ _ _).trans (congrArg₂ min ?_ h)
  exact Ideal.ofBits_zero_f32

theorem hi_gen44 (A : FVec Ideal S1x768x44x128 .f32) (r : Fin 768) (g : Fin 44) :
    (maximumf (broadcastInDim S1x768x44 ![] bcast_S_S1x768x44 (constant S_ .f32 0x00000000#32))
      (Host.reduce FloatOps.maximumf A (constant S_ .f32 0xFF800000#32) reducesTo_S1x768x44x128_S1x768x44_d3 h_S_)) (ix3 0 r g)
      = gHi (fun l => A (ix4 0 r g l)) := by
  have h : (Host.reduce FloatOps.maximumf A (constant S_ .f32 0xFF800000#32) reducesTo_S1x768x44x128_S1x768x44_d3 h_S_) (ix3 0 r g)
      = Finset.fold max (Ideal.ofBits FTy.f32 4286578688#32) (fun l => A (ix4 0 r g l)) Finset.univ := by
    pointwise []
  refine (ValueIdx.maximumf_apply _ _ _).trans (congrArg₂ max ?_ h)
  exact Ideal.ofBits_zero_f32

theorem s_gen44 (A B : FVec Ideal S1x768x44 .f32) (r : Fin 768) (g : Fin 44) :
    (select (cmpf .oeq A B) (broadcastInDim S1x768x44 ![] bcast_S_S1x768x44 (id (constant S_ .f32 0x3F800000#32)))
      (Host.divf (subf A B) (broadcastInDim S1x768x44 ![] bcast_S_S1x768x44 (constant S_ .f32 0x41700000#32)))) (ix3 0 r g)
      = sc (B (ix3 0 r g)) (A (ix3 0 r g)) := by
  show Scalar.select (FloatOps.cmpf (F := Ideal) (φ := .f32) .oeq (A (ix3 0 r g)) (B (ix3 0 r g))) (Ideal.ofBits .f32 1065353216#32)
    (Ideal.div (A (ix3 0 r g) - B (ix3 0 r g)) (Ideal.ofBits .f32 1097859072#32)) = _
  generalize A (ix3 0 r g) = a
  generalize B (ix3 0 r g) = b
  rw [lit15]
  pointwise []
  rfl

theorem hb44 (X : FVec Ideal S1x768x44 .f32) (r : Fin 768) (g : Fin 44) (l : Fin 128) :
    (broadcastInDim S1x768x44x128 ![0, 1, 2, 3] bcast_S1x768x44x1_S1x768x44x128_0_1_2_3
      (broadcastInDim S1x768x44x1 ![0, 1, 2] bcast_S1x768x44_S1x768x44x1_0_1_2 X)) (ix4 0 r g l) = X (ix3 0 r g) := by
  pointwise []

theorem c_gen44 (A : FVec Ideal S1x768x44x128 .f32) (B C : FVec Ideal S1x768x44 .f32) (r : Fin 768) (g : Fin 44) (l : Fin 128) :
    (trunci 8 (fptosi 32 (minimumf (broadcastInDim S1x768x44x128 ![] bcast_S_S1x768x44x128 (id (constant S_ .f32 0x41700000#32)))
      (maximumf (broadcastInDim S1x768x44x128 ![] bcast_S_S1x768x44x128 (id (constant S_ .f32 0x00000000#32)))
        (addf (Host.roundeven (Host.divf A (broadcastInDim S1x768x44x128 ![0, 1, 2, 3] bcast_S1x768x44x1_S1x768x44x128_0_1_2_3
            (broadcastInDim S1x768x44x1 ![0, 1, 2] bcast_S1x768x44_S1x768x44x1_0_1_2 B))))
          (broadcastInDim S1x768x44x128 ![0, 1, 2, 3] bcast_S1x768x44x1_S1x768x44x128_0_1_2_3
            (broadcastInDim S1x768x44x1 ![0, 1, 2] bcast_S1x768x44_S1x768x44x1_0_1_2 C)))))) natLt_8_32 : IVec S1x768x44x128 8) (ix4 0 r g l)
      = BitVec.setWidth 8 (Ideal.fptosi 32 (min (Ideal.ofBits .f32 1097859072#32) (max (Ideal.ofBits .f32 0#32)
          (rd (Ideal.div (A (ix4 0 r g l)) (B (ix3 0 r g))) + C (ix3 0 r g))))) := by
  rw [← hb44 B r g l, ← hb44 C r g l]
  rfl

theorem z_gen44 (A B : FVec Ideal S1x768x44 .f32) (r : Fin 768) (g : Fin 44) :
    Host.roundeven (Host.divf (Host.negf A) B) (ix3 0 r g) = rd (Ideal.div (-(A (ix3 0 r g))) (B (ix3 0 r g))) := rfl

def f102 (V0 : Valuation τ sig (Elt Ideal)) : FVec Ideal S1x768x44x128 .f32 := res_main_v102 V0
def f105 (V0 : Valuation τ sig (Elt Ideal)) : FVec Ideal S1x768x44 .f32 := res_main_v105 V0
def f108 (V0 : Valuation τ sig (Elt Ideal)) : FVec Ideal S1x768x44 .f32 := res_main_v108 V0
def f113 (V0 : Valuation τ sig (Elt Ideal)) : FVec Ideal S1x768x44 .f32 := res_main_v113 V0
def f116 (V0 : Valuation τ sig (Elt Ideal)) : FVec Ideal S1x768x44 .f32 := res_main_v116 V0

theorem lo_105 (V0 : Valuation τ sig (Elt Ideal)) (r : Fin 768) (g : Fin 44) : f105 V0 (ix3 0 r g) = gLo (fun l => f102 V0 (ix4 0 r g l)) := by
  unfold f105 f102 res_main_v105
  exact lo_gen44 _ r g
theorem hi_108 (V0 : Valuation τ sig (Elt Ideal)) (r : Fin 768) (g : Fin 44) : f108 V0 (ix3 0 r g) = gHi (fun l => f102 V0 (ix4 0 r g l)) := by
  unfold f108 f102 res_main_v108
  exact hi_gen44 _ r g
/-- The scale of one group. -/
theorem s_113 (V0 : Valuation τ sig (Elt Ideal)) (r : Fin 768) (g : Fin 44) : f113 V0 (ix3 0 r g) = gS (fun l => f102 V0 (ix4 0 r g l)) := by
  unfold gS
  rw [← lo_105, ← hi_108]
  unfold f113 f105 f108 res_main_v113
  exact s_gen44 _ _ r g
/-- The zero point of one group. -/
theorem z_116 (V0 : Valuation τ sig (Elt Ideal)) (r : Fin 768) (g : Fin 44) :
    f116 V0 (ix3 0 r g) = ((gN (fun l => f102 V0 (ix4 0 r g l)) : ℝ) : EReal) := by
  rw [← gN_eq, ← lo_105, ← s_113]
  unfold f113 f105 f116 res_main_v116
  exact z_gen44 _ _ r g
theorem zb_116 (V0 : Valuation τ sig (Elt Ideal)) (r : Fin 768) (g : Fin 44) :
    (trunci 8 (fptosi 32 (f116 V0)) natLt_8_32 : IVec S1x768x44 8) (ix3 0 r g) = BitVec.ofNat 8 (gN (fun l => f102 V0 (ix4 0 r g l))) := by
  show BitVec.setWidth 8 (Ideal.fptosi 32 (f116 V0 (ix3 0 r g))) = _
  rw [z_116, fptosi_nat (gN_le _)]
  exact setWidth_nat (gN_le _)
/-- The code of one number of a group. -/
theorem code_102 (w : Fin 128 → EReal) (l : Fin 128) :
    BitVec.setWidth 8 (Ideal.fptosi 32 (min (Ideal.ofBits .f32 1097859072#32) (max (Ideal.ofBits .f32 0#32)
      (rd (Ideal.div (w l) (gS w)) + ((gN w : ℝ) : EReal))))) = BitVec.ofNat 8 (gC w l) := by
  rw [lit15, Ideal.ofBits_zero_f32, gQ_eq, ← EReal.coe_zero, gC_plain, fptosi_nat (gC_le _ _)]
  exact setWidth_nat (gC_le _ _)

def f25 (V0 : Valuation τ sig (Elt Ideal)) : IVec S1x768x16x128 8 := res_main_v25 V0
theorem c_25 (V0 : Valuation τ sig (Elt Ideal)) (r : Fin 768) (g : Fin 16) (l : Fin 128) :
    f25 V0 (ix4 0 r g l) = BitVec.ofNat 8 (gC (fun l => f1 V0 (ix4 0 r g l)) l) := by
  rw [← code_1, ← s_12, ← z_15]
  unfold f25 f12 f15 f1 res_main_v25
  exact c_gen16 _ _ _ r g l

end Cert.ReferenceIdeal.Value

end
-- ==== Proof.Value.RefB.lean ====
/- The reference's two products, its gated product and its packed codes at an index. -/
module

public import proofs.«01_k».proof.Proof.Value.RefA
public import Idealize.ShloMosaic.Lib.Tactic.CleanTypes

@[expose] public section

noncomputable section

namespace Cert.ReferenceIdeal.Value

open Idealize.ShloMosaic Idealize.ShloMosaic.TcCoe Idealize.ShloMosaic.Tactic
open Cert.ReferenceIdeal Cert.ReferenceIdeal.Gen
open Cert.KernelIdeal.Val Cert.Spec

/-- A sum over twice as many places, split into the even and the odd ones. -/
theorem sum_split {n : ℕ} (f : Fin (n * 2) → EReal) :
    ∑ k, f k = ∑ j : Fin n, f ⟨2 * j.val, by omega⟩ + ∑ j : Fin n, f ⟨2 * j.val + 1, by omega⟩ := by
  rw [← Equiv.sum_comp finProdFinEquiv f, Fintype.sum_prod_type, ← Finset.sum_add_distrib]
  refine Finset.sum_congr rfl fun j _ => ?_
  rw [Fin.sum_univ_two]
  congr 2
  · exact Fin.ext (by simp [finProdFinEquiv])
  · exact Fin.ext (by simp [finProdFinEquiv, add_comm])

theorem dot_at (L : FVec Ideal S2x1024x5632 .bf16) (R : FVec Ideal S768x1024 .bf16) (p : Fin 2) (r : Fin 768) (n : Fin 5632) :
    (transpose S2x768x5632 [0, 2, 1] (Host.dotGeneral (F := Ideal) (φ₁ := .bf16) (φ₂ := .bf16) dot_S2x1024x5632_S768x1024_S2x5632x768_1_1_02_0_n_n none L R) transposes_S2x5632x768_S2x768x5632_0_2_1 : FVec Ideal S2x768x5632 .f32) (ix3 p r n)
      = ∑ j : Fin 1024, L (ix3 p j n) * R (ix2 r j) := by
  pointwise []

theorem w_at (A : IVec S2x1024x5632 32) (B : FVec Ideal S2x16x5632 .bf16) (p : Fin 2) (j : Fin 1024) (n : Fin 5632) :
    (shapeCast S2x1024x5632 (mulf (shapeCast S2x16x64x5632 (sitofp .bf16 A) shapeCasts_S2x1024x5632_S2x16x64x5632) (broadcastInDim S2x16x64x5632 ![0, 1, 2, 3] bcast_S2x16x1x5632_S2x16x64x5632_0_1_2_3 (broadcastInDim S2x16x1x5632 ![0, 1, 3] bcast_S2x16x5632_S2x16x1x5632_0_1_3 B))) shapeCasts_S2x16x64x5632_S2x1024x5632 : FVec Ideal S2x1024x5632 .bf16) (ix3 p j n)
      = (((A (ix3 p j n)).toInt : ℝ) : EReal) * B (ix3 p ⟨j.val / 64, by omega⟩ n) := by
  pointwise []
  rfl

theorem a_at0 (A : IVec S1x768x16x64x2 32) (B : IVec S1x768x16x1 32) (C : FVec Ideal S1x768x16x1 .bf16) (r : Fin 768) (j : Fin 1024) :
    (shapeCast S768x1024 (mulf (sitofp .bf16 (subi (shapeCast S1x768x16x64 (extractStridedSlice S1x768x16x64x1 ![0, 0, 0, 0, 0] A slices_S1x768x16x64x2_S1x768x16x64x1_0_0_0_0_0) shapeCasts_S1x768x16x64x1_S1x768x16x64) (broadcastInDim S1x768x16x64 ![0, 1, 2, 3] bcast_S1x768x16x1_S1x768x16x64_0_1_2_3 B))) (broadcastInDim S1x768x16x64 ![0, 1, 2, 3] bcast_S1x768x16x1_S1x768x16x64_0_1_2_3 C)) shapeCasts_S1x768x16x64_S768x1024 : FVec Ideal S768x1024 .bf16) (ix2 r j)
      = (((A (ix5 0 r ⟨j.val / 64, by omega⟩ ⟨j.val % 64, by omega⟩ 0) - B (ix4 0 r ⟨j.val / 64, by omega⟩ 0)).toInt : ℝ) : EReal) * C (ix4 0 r ⟨j.val / 64, by omega⟩ 0) := by
  pointwise []
  rfl

theorem a_at1 (A : IVec S1x768x16x64x2 32) (B : IVec S1x768x16x1 32) (C : FVec Ideal S1x768x16x1 .bf16) (r : Fin 768) (j : Fin 1024) :
    (shapeCast S768x1024 (mulf (sitofp .bf16 (subi (shapeCast S1x768x16x64 (extractStridedSlice S1x768x16x64x1 ![0, 0, 0, 0, 1] A slices_S1x768x16x64x2_S1x768x16x64x1_0_0_0_0_1) shapeCasts_S1x768x16x64x1_S1x768x16x64) (broadcastInDim S1x768x16x64 ![0, 1, 2, 3] bcast_S1x768x16x1_S1x768x16x64_0_1_2_3 B))) (broadcastInDim S1x768x16x64 ![0, 1, 2, 3] bcast_S1x768x16x1_S1x768x16x64_0_1_2_3 C)) shapeCasts_S1x768x16x64_S768x1024 : FVec Ideal S768x1024 .bf16) (ix2 r j)
      = (((A (ix5 0 r ⟨j.val / 64, by omega⟩ ⟨j.val % 64, by omega⟩ 1) - B (ix4 0 r ⟨j.val / 64, by omega⟩ 0)).toInt : ℝ) : EReal) * C (ix4 0 r ⟨j.val / 64, by omega⟩ 0) := by
  pointwise []
  rfl

theorem wt_at (W : IVec S1024x2x5632 8) (p : Fin 2) (j : Fin 1024) (n : Fin 5632) :
    (extui 32 (transpose S2x1024x5632 [1, 0, 2] W transposes_S1024x2x5632_S2x1024x5632_1_0_2) natLt_8_32 : IVec S2x1024x5632 32) (ix3 p j n)
      = (W (ix3 j p n)).setWidth 32 := by
  pointwise []
theorem ws_at (W : FVec Ideal S16x2x5632 .f32) (p : Fin 2) (j : Fin 16) (n : Fin 5632) :
    (truncf .bf16 (transpose S2x16x5632 [1, 0, 2] W transposes_S16x2x5632_S2x16x5632_1_0_2) bitsLt_bf16_f32 : FVec Ideal S2x16x5632 .bf16) (ix3 p j n)
      = W (ix3 j p n) := by
  pointwise []
theorem sel_at (A : IVec S2x1024x5632 32) (p : Fin 2) (j : Fin 1024) (n : Fin 5632) :
    (select (cmpi .sge A (broadcastInDim S2x1024x5632 ![] bcast_S_S2x1024x5632 (constantI S_ 32 8#32))) (subi A (broadcastInDim S2x1024x5632 ![] bcast_S_S2x1024x5632 (constantI S_ 32 16#32))) A) (ix3 p j n)
      = Scalar.select (IntOp.cmpi .sge (A (ix3 p j n)) 8#32) (A (ix3 p j n) - 16#32) (A (ix3 p j n)) := rfl
theorem low_at (A : IVec S2x1024x5632 32) (p : Fin 2) (j : Fin 1024) (n : Fin 5632) :
    (andi A (broadcastInDim S2x1024x5632 ![] bcast_S_S2x1024x5632 (constantI S_ 32 15#32))) (ix3 p j n) = A (ix3 p j n) &&& 15#32 := rfl
theorem high_at (A : IVec S2x1024x5632 32) (p : Fin 2) (j : Fin 1024) (n : Fin 5632) :
    (Host.shrsi A (broadcastInDim S2x1024x5632 ![] bcast_S_S2x1024x5632 (constantI S_ 32 4#32))) (ix3 p j n) = (A (ix3 p j n)).sshiftRight 4 := rfl
theorem nib_low (b : BitVec 8) : (Scalar.select (IntOp.cmpi .sge (b.setWidth 32 &&& 15#32) 8#32) ((b.setWidth 32 &&& 15#32) - 16#32) (b.setWidth 32 &&& 15#32)).toInt = (nibOf false b).toInt := by
  revert b; decide +kernel
theorem nib_high (b : BitVec 8) : (Scalar.select (IntOp.cmpi .sge ((b.setWidth 32).sshiftRight 4) 8#32) (((b.setWidth 32).sshiftRight 4) - 16#32) ((b.setWidth 32).sshiftRight 4)).toInt = (nibOf true b).toInt := by
  revert b; decide +kernel

theorem t0_at (A : FVec Ideal S2x768x5632 .f32) (r : Fin 768) (n : Fin 5632) :
    (shapeCast S768x5632 (extractStridedSlice S1x768x5632 ![0, 0, 0] A slices_S2x768x5632_S1x768x5632_0_0_0) shapeCasts_S1x768x5632_S768x5632 : FVec Ideal S768x5632 .f32) (ix2 r n) = A (ix3 0 r n) := by
  pointwise []
theorem t1_at (A : FVec Ideal S2x768x5632 .f32) (r : Fin 768) (n : Fin 5632) :
    (shapeCast S768x5632 (extractStridedSlice S1x768x5632 ![1, 0, 0] A slices_S2x768x5632_S1x768x5632_1_0_0) shapeCasts_S1x768x5632_S768x5632 : FVec Ideal S768x5632 .f32) (ix2 r n) = A (ix3 1 r n) := by
  pointwise []
theorem h_at (A B : FVec Ideal S768x5632 .f32) (r : Fin 768) (n : Fin 5632) :
    (shapeCast S1x768x5632 (truncf .bf16 (mulf (mulf A (Host.divf (broadcastInDim S768x5632 ![] bcast_S_S768x5632 (constant S_ .f32 0x3F800000#32)) (addf (broadcastInDim S768x5632 ![] bcast_S_S768x5632 (constant S_ .f32 0x3F800000#32)) (Host.exp (Host.negf A))))) B) bitsLt_bf16_f32) shapeCasts_S768x5632_S1x768x5632 : FVec Ideal S1x768x5632 .bf16) (ix3 0 r n)
      = (A (ix2 r n) * Ideal.div 1 (1 + Ideal.exp (-(A (ix2 r n))))) * B (ix2 r n) := by
  pointwise []
theorem g16_at (A : FVec Ideal S1x768x2048 .bf16) (r : Fin 768) (g : Fin 16) (l : Fin 128) :
    (shapeCast S1x768x16x128 (extf .f32 A bitsLt_bf16_f32) shapeCasts_S1x768x2048_S1x768x16x128 : FVec Ideal S1x768x16x128 .f32) (ix4 0 r g l) = A (ix3 0 r (gl g l)) := by
  pointwise []
  rfl
theorem g44_at (A : FVec Ideal S1x768x5632 .bf16) (r : Fin 768) (g : Fin 44) (l : Fin 128) :
    (shapeCast S1x768x44x128 (extf .f32 A bitsLt_bf16_f32) shapeCasts_S1x768x5632_S1x768x44x128 : FVec Ideal S1x768x44x128 .f32) (ix4 0 r g l) = A (ix3 0 r (gl g l)) := by
  pointwise []
  rfl
theorem u16_at (V0 : IVec S1x768x16x128 8) (r : Fin 768) (c : Fin 2048) :
    (extui 32 (shapeCast S1x768x2048 V0 shapeCasts_S1x768x16x128_S1x768x2048) natLt_8_32 : IVec S1x768x2048 32) (ix3 0 r c)
      = (V0 (ix4 0 r (cg (n := 16) c) (cl (n := 16) c))).setWidth 32 := by
  pointwise []
  rfl
theorem u44_at (V0 : IVec S1x768x44x128 8) (r : Fin 768) (c : Fin 5632) :
    (extui 32 (shapeCast S1x768x5632 V0 shapeCasts_S1x768x44x128_S1x768x5632) natLt_8_32 : IVec S1x768x5632 32) (ix3 0 r c)
      = (V0 (ix4 0 r (cg (n := 44) c) (cl (n := 44) c))).setWidth 32 := by
  pointwise []
  rfl
theorem u5_at (V0 : IVec S1x768x16x128 8) (r : Fin 768) (g : Fin 16) (j : Fin 64) (e : Fin 2) :
    (extui 32 (shapeCast S1x768x16x64x2 V0 shapeCasts_S1x768x16x128_S1x768x16x64x2) natLt_8_32 : IVec S1x768x16x64x2 32) (ix5 0 r g j e)
      = (V0 (ix4 0 r g ⟨j.val * 2 + e.val, by omega⟩)).setWidth 32 := by
  pointwise []
theorem zp_bc (V0 : IVec S1x768x16 8) (r : Fin 768) (g : Fin 16) :
    (broadcastInDim S1x768x16x1 ![0, 1, 2] bcast_S1x768x16_S1x768x16x1_0_1_2 (extui 32 V0 natLt_8_32 : IVec S1x768x16 32)) (ix4 0 r g 0) = (V0 (ix3 0 r g)).setWidth 32 := by
  pointwise []
theorem s_bc (V0 : FVec Ideal S1x768x16 .f32) (r : Fin 768) (g : Fin 16) :
    (broadcastInDim S1x768x16x1 ![0, 1, 2] bcast_S1x768x16_S1x768x16x1_0_1_2 (truncf .bf16 V0 bitsLt_bf16_f32 : FVec Ideal S1x768x16 .bf16)) (ix4 0 r g 0) = V0 (ix3 0 r g) := by
  pointwise []
theorem pack1_at (A : IVec S1x768x2048 32) (r : Fin 768) (c : Fin 1024) :
    (shapeCast S768x1024 (trunci 8 (ori (Host.slice S1x768x1024 ![0, 0, 0] ![1, 1, 2] A slicesBy_S1x768x2048_S1x768x1024_0s1_0s1_0s2) (Host.shli (Host.slice S1x768x1024 ![0, 0, 1] ![1, 1, 2] A slicesBy_S1x768x2048_S1x768x1024_0s1_0s1_1s2) (broadcastInDim S1x768x1024 ![] bcast_S_S1x768x1024 (constantI S_ 32 4#32)))) natLt_8_32) shapeCasts_S1x768x1024_S768x1024 : S768x1024.Idx → BitVec 8) (ix2 r c)
      = (A (ix3 0 r ⟨2 * c.val, by omega⟩) ||| (A (ix3 0 r ⟨1 + 2 * c.val, by omega⟩) <<< 4)).setWidth 8 := by
  pointwise []
  rfl
theorem pack4_at (A : IVec S1x768x5632 32) (r : Fin 768) (c : Fin 2816) :
    (shapeCast S768x2816 (trunci 8 (ori (Host.slice S1x768x2816 ![0, 0, 0] ![1, 1, 2] A slicesBy_S1x768x5632_S1x768x2816_0s1_0s1_0s2) (Host.shli (Host.slice S1x768x2816 ![0, 0, 1] ![1, 1, 2] A slicesBy_S1x768x5632_S1x768x2816_0s1_0s1_1s2) (broadcastInDim S1x768x2816 ![] bcast_S_S1x768x2816 (constantI S_ 32 4#32)))) natLt_8_32) shapeCasts_S1x768x2816_S768x2816 : S768x2816.Idx → BitVec 8) (ix2 r c)
      = (A (ix3 0 r ⟨2 * c.val, by omega⟩) ||| (A (ix3 0 r ⟨1 + 2 * c.val, by omega⟩) <<< 4)).setWidth 8 := by
  pointwise []
  rfl

theorem pair_ext {a b : ℕ} (ha : a ≤ 15) (hb : b ≤ 15) :
    ((BitVec.ofNat 8 a).setWidth 32 ||| ((BitVec.ofNat 8 b).setWidth 32 <<< 4)).setWidth 8 = pair8 a b := by
  have k : ∀ a b : Fin 16, ((BitVec.ofNat 8 a.val).setWidth 32 ||| ((BitVec.ofNat 8 b.val).setWidth 32 <<< 4)).setWidth 8 = pair8 a.val b.val := by decide +kernel
  exact k ⟨a, by omega⟩ ⟨b, by omega⟩

theorem diff_ext {a b : ℕ} (ha : a ≤ 15) (hb : b ≤ 15) :
    ((BitVec.ofNat 8 a).setWidth 32 - (BitVec.ofNat 8 b).setWidth 32).toInt = (a : ℤ) - (b : ℤ) := by
  have k : ∀ a b : Fin 16, ((BitVec.ofNat 8 a.val).setWidth 32 - (BitVec.ofNat 8 b.val).setWidth 32).toInt = (a.val : ℤ) - (b.val : ℤ) := by decide +kernel
  exact k ⟨a, by omega⟩ ⟨b, by omega⟩

/-- The three arguments. -/
def a0 (V0 : Valuation τ sig (Elt Ideal)) : FVec Ideal S1x768x2048 .bf16 := V0 (Proc.devRef .tc main_arg0)
def a1 (V0 : Valuation τ sig (Elt Ideal)) : IVec S1024x2x5632 8 := V0 (Proc.devRef .tc main_arg1)
def a2 (V0 : Valuation τ sig (Elt Ideal)) : FVec Ideal S16x2x5632 .f32 := V0 (Proc.devRef .tc main_arg2)

abbrev xs (V0 : Valuation τ sig (Elt Ideal)) : Fin 768 → Fin 2048 → EReal := fun r k => a0 V0 (ix3 0 r k)
abbrev ws (V0 : Valuation τ sig (Elt Ideal)) : Fin 1024 → Fin 2 → Fin 5632 → BitVec 8 := fun j p n => a1 V0 (ix3 j p n)
abbrev ss (V0 : Valuation τ sig (Elt Ideal)) : Fin 16 → Fin 2 → Fin 5632 → EReal := fun j p n => a2 V0 (ix3 j p n)

theorem f1_at (V0 : Valuation τ sig (Elt Ideal)) (r : Fin 768) (g : Fin 16) : (fun l => f1 V0 (ix4 0 r g l)) = grp (n := 16) (xs V0) r g := by
  funext l
  unfold f1 res_main_v1
  exact g16_at (a0 V0) r g l

def f27 (V0 : Valuation τ sig (Elt Ideal)) : IVec S1x768x16 8 := res_main_v27 V0
theorem zp_27 (V0 : Valuation τ sig (Elt Ideal)) (r : Fin 768) (g : Fin 16) : f27 V0 (ix3 0 r g) = BitVec.ofNat 8 (gN (grp (n := 16) (xs V0) r g)) := by
  rw [← f1_at, ← zb_15]
  rfl
def f39 (V0 : Valuation τ sig (Elt Ideal)) : IVec S1x768x16x1 32 := res_main_v39 V0
theorem zp_39 (V0 : Valuation τ sig (Elt Ideal)) (r : Fin 768) (g : Fin 16) :
    f39 V0 (ix4 0 r g 0) = (BitVec.ofNat 8 (gN (grp (n := 16) (xs V0) r g))).setWidth 32 := by
  rw [← zp_27]
  exact zp_bc (f27 V0) r g
def f41 (V0 : Valuation τ sig (Elt Ideal)) : FVec Ideal S1x768x16x1 .bf16 := res_main_v41 V0
theorem s_41 (V0 : Valuation τ sig (Elt Ideal)) (r : Fin 768) (g : Fin 16) : f41 V0 (ix4 0 r g 0) = gS (grp (n := 16) (xs V0) r g) := by
  rw [← f1_at, ← s_12]
  exact s_bc (f12 V0) r g
def f37 (V0 : Valuation τ sig (Elt Ideal)) : IVec S1x768x16x64x2 32 := res_main_v37 V0
theorem c_37 (V0 : Valuation τ sig (Elt Ideal)) (r : Fin 768) (g : Fin 16) (j : Fin 64) (e : Fin 2) :
    f37 V0 (ix5 0 r g j e) = (BitVec.ofNat 8 (gC (grp (n := 16) (xs V0) r g) ⟨j.val * 2 + e.val, by omega⟩)).setWidth 32 := by
  rw [← f1_at, ← c_25]
  exact u5_at (f25 V0) r g j e
def f29 (V0 : Valuation τ sig (Elt Ideal)) : IVec S1x768x2048 32 := res_main_v29 V0
theorem c_29 (V0 : Valuation τ sig (Elt Ideal)) (r : Fin 768) (c : Fin 2048) :
    f29 V0 (ix3 0 r c) = (BitVec.ofNat 8 (gC (grp (n := 16) (xs V0) r (cg (n := 16) c)) (cl (n := 16) c))).setWidth 32 := by
  rw [← f1_at, ← c_25]
  exact u16_at (f25 V0) r c

def f59 (V0 : Valuation τ sig (Elt Ideal)) : IVec S2x1024x5632 32 := res_main_v59 V0
theorem w_59 (V0 : Valuation τ sig (Elt Ideal)) (p : Fin 2) (j : Fin 1024) (n : Fin 5632) : f59 V0 (ix3 p j n) = (ws V0 j p n).setWidth 32 :=
  wt_at (a1 V0) p j n
def f61 (V0 : Valuation τ sig (Elt Ideal)) : FVec Ideal S2x16x5632 .bf16 := res_main_v61 V0
theorem s_61 (V0 : Valuation τ sig (Elt Ideal)) (p : Fin 2) (j : Fin 16) (n : Fin 5632) : f61 V0 (ix3 p j n) = ss V0 j p n := ws_at (a2 V0) p j n
def f63 (V0 : Valuation τ sig (Elt Ideal)) : IVec S2x1024x5632 32 := res_main_v63 V0
theorem w_63 (V0 : Valuation τ sig (Elt Ideal)) (p : Fin 2) (j : Fin 1024) (n : Fin 5632) : f63 V0 (ix3 p j n) = (ws V0 j p n).setWidth 32 &&& 15#32 := by
  rw [← w_59]
  exact low_at (f59 V0) p j n
def f76 (V0 : Valuation τ sig (Elt Ideal)) : IVec S2x1024x5632 32 := res_main_v76 V0
theorem w_76 (V0 : Valuation τ sig (Elt Ideal)) (p : Fin 2) (j : Fin 1024) (n : Fin 5632) : f76 V0 (ix3 p j n) = ((ws V0 j p n).setWidth 32).sshiftRight 4 := by
  rw [← w_59]
  exact high_at (f59 V0) p j n

def f92 (V0 : Valuation τ sig (Elt Ideal)) : FVec Ideal S2x768x5632 .f32 := res_main_v92 V0

/-- The two products, even rows of weights and odd rows. -/
theorem f92_sum (V0 : Valuation τ sig (Elt Ideal)) (p : Fin 2) (r : Fin 768) (n : Fin 5632) :
    f92 V0 (ix3 p r n)
      = ∑ j : Fin 1024, (((Scalar.select (IntOp.cmpi .sge (f63 V0 (ix3 p j n)) 8#32) (f63 V0 (ix3 p j n) - 16#32) (f63 V0 (ix3 p j n))).toInt : ℝ) : EReal) * f61 V0 (ix3 p ⟨j.val / 64, by omega⟩ n)
          * ((((f37 V0 (ix5 0 r ⟨j.val / 64, by omega⟩ ⟨j.val % 64, by omega⟩ 0) - f39 V0 (ix4 0 r ⟨j.val / 64, by omega⟩ 0)).toInt : ℝ) : EReal) * f41 V0 (ix4 0 r ⟨j.val / 64, by omega⟩ 0))
        + ∑ j : Fin 1024, (((Scalar.select (IntOp.cmpi .sge (f76 V0 (ix3 p j n)) 8#32) (f76 V0 (ix3 p j n) - 16#32) (f76 V0 (ix3 p j n))).toInt : ℝ) : EReal) * f61 V0 (ix3 p ⟨j.val / 64, by omega⟩ n)
          * ((((f37 V0 (ix5 0 r ⟨j.val / 64, by omega⟩ ⟨j.val % 64, by omega⟩ 1) - f39 V0 (ix4 0 r ⟨j.val / 64, by omega⟩ 0)).toInt : ℝ) : EReal) * f41 V0 (ix4 0 r ⟨j.val / 64, by omega⟩ 0)) := by
  simp only [← sel_at, ← w_at, ← a_at0, ← a_at1]
  rw [← dot_at, ← dot_at]
  rfl

theorem f92_at (V0 : Valuation τ sig (Elt Ideal)) (p : Fin 2) (r : Fin 768) (n : Fin 5632) : f92 V0 (ix3 p r n) = pr (xs V0) (ws V0) (ss V0) p r n := by
  rw [f92_sum]
  refine Eq.trans ?_ (sum_split (n := 1024) (fun k => av (xs V0) r k * wv (ws V0) (ss V0) p k n)).symm
  congr 1
  · refine Finset.sum_congr rfl fun j _ => ?_
    rw [w_63, s_61, c_37, zp_39, s_41, nib_low, diff_ext (gC_le _ _) (gN_le _), mul_comm]
    unfold av wv deq
    have e1 : cg (n := 16) (⟨2 * j.val, by omega⟩ : Fin (16 * 128)) = (⟨j.val / 64, by omega⟩ : Fin 16) := Fin.ext (by unfold cg; dsimp only; omega)
    have e2 : cl (n := 16) (⟨2 * j.val, by omega⟩ : Fin (16 * 128)) = (⟨j.val % 64 * 2 + (0 : Fin 2).val, by simp; omega⟩ : Fin 128) := Fin.ext (by unfold cl; simp; omega)
    have e3 : (decide (2 * j.val % 2 = 1)) = false := by simp
    have e4 : ∀ h, (⟨2 * j.val / 2, h⟩ : Fin 1024) = j := fun h => Fin.ext (by dsimp only; omega)
    dsimp only
    rw [e1, e2, e3, e4]
  · refine Finset.sum_congr rfl fun j _ => ?_
    rw [w_76, s_61, c_37, zp_39, s_41, nib_high, diff_ext (gC_le _ _) (gN_le _), mul_comm]
    unfold av wv deq
    have e1 : cg (n := 16) (⟨2 * j.val + 1, by omega⟩ : Fin (16 * 128)) = (⟨j.val / 64, by omega⟩ : Fin 16) := Fin.ext (by unfold cg; dsimp only; omega)
    have e2 : cl (n := 16) (⟨2 * j.val + 1, by omega⟩ : Fin (16 * 128)) = (⟨j.val % 64 * 2 + (1 : Fin 2).val, by simp; omega⟩ : Fin 128) := Fin.ext (by unfold cl; simp; omega)
    have e3 : (decide ((2 * j.val + 1) % 2 = 1)) = true := by simp
    have e4 : ∀ h, (⟨(2 * j.val + 1) / 2, h⟩ : Fin 1024) = j := fun h => Fin.ext (by dsimp only; omega)
    dsimp only
    rw [e1, e2, e3, e4]

def f94 (V0 : Valuation τ sig (Elt Ideal)) : FVec Ideal S768x5632 .f32 := res_main_v94 V0
theorem f94_at (V0 : Valuation τ sig (Elt Ideal)) (r : Fin 768) (n : Fin 5632) : f94 V0 (ix2 r n) = f92 V0 (ix3 0 r n) := t0_at (f92 V0) r n
def f100 (V0 : Valuation τ sig (Elt Ideal)) : FVec Ideal S1x768x5632 .bf16 := res_main_v100 V0
theorem exp_add_ne (a : EReal) : 1 + Ideal.exp (-a) ≠ 0 := by
  have h : (0 : EReal) ≤ Ideal.exp (-a) := by
    generalize -a = b
    induction b with
    | bot => exact le_refl _
    | top => exact le_top
    | coe b => exact EReal.coe_nonneg.mpr (Real.exp_pos b).le
  intro e
  have : (1 : EReal) ≤ 1 + Ideal.exp (-a) := le_add_of_nonneg_right h
  rw [e] at this
  exact absurd this (by simp)

def f97 (V0 : Valuation τ sig (Elt Ideal)) : FVec Ideal S768x5632 .f32 :=
  shapeCast S768x5632 (extractStridedSlice S1x768x5632 ![1, 0, 0] (f92 V0) slices_S2x768x5632_S1x768x5632_1_0_0) shapeCasts_S1x768x5632_S768x5632
theorem f97_at (V0 : Valuation τ sig (Elt Ideal)) (r : Fin 768) (n : Fin 5632) : f97 V0 (ix2 r n) = f92 V0 (ix3 1 r n) := t1_at (f92 V0) r n

/-- The gated product. -/
theorem f100_at (V0 : Valuation τ sig (Elt Ideal)) (r : Fin 768) (n : Fin 5632) : f100 V0 (ix3 0 r n) = hv (xs V0) (ws V0) (ss V0) r n := by
  refine (h_at (f94 V0) (f97 V0) r n).trans ?_
  rw [f97_at, f94_at, f92_at, f92_at, mul_recip (exp_add_ne _)]
  rfl

theorem f102_at (V0 : Valuation τ sig (Elt Ideal)) (r : Fin 768) (g : Fin 44) :
    (fun l => f102 V0 (ix4 0 r g l)) = grp (n := 44) (hv (xs V0) (ws V0) (ss V0)) r g := by
  funext l
  unfold grp
  rw [← f100_at]
  exact g44_at (f100 V0) r g l

def f130 (V0 : Valuation τ sig (Elt Ideal)) : IVec S1x768x5632 32 := res_main_v130 V0
theorem c_130 (V0 : Valuation τ sig (Elt Ideal)) (r : Fin 768) (c : Fin 5632) :
    f130 V0 (ix3 0 r c) = (BitVec.ofNat 8 (gC (grp (n := 44) (hv (xs V0) (ws V0) (ss V0)) r (cg (n := 44) c)) (cl (n := 44) c))).setWidth 32 := by
  rw [← f102_at, ← code_102, ← s_113, ← z_116, ← c_gen44, ← u44_at]
  rfl

theorem sq_h (A : FVec Ideal S1x768x5632 .bf16) (r : Fin 768) (n : Fin 5632) : (shapeCast S768x5632 A shapeCasts_S1x768x5632_S768x5632 : FVec Ideal S768x5632 .bf16) (ix2 r n) = A (ix3 0 r n) := by
  pointwise []
theorem sq_s (A : FVec Ideal S1x768x16 .f32) (r : Fin 768) (n : Fin 16) : (shapeCast S768x16 A shapeCasts_S1x768x16_S768x16 : FVec Ideal S768x16 .f32) (ix2 r n) = A (ix3 0 r n) := by
  pointwise []
theorem sq_z (A : IVec S1x768x16 8) (r : Fin 768) (n : Fin 16) : (shapeCast S768x16 A shapeCasts_S1x768x16_S768x16 : IVec S768x16 8) (ix2 r n) = A (ix3 0 r n) := by
  pointwise []
theorem sq_s4 (A : FVec Ideal S1x768x44 .f32) (r : Fin 768) (n : Fin 44) : (shapeCast S768x44 A shapeCasts_S1x768x44_S768x44 : FVec Ideal S768x44 .f32) (ix2 r n) = A (ix3 0 r n) := by
  pointwise []
theorem sq_z4 (A : IVec S1x768x44 8) (r : Fin 768) (n : Fin 44) : (shapeCast S768x44 A shapeCasts_S1x768x44_S768x44 : IVec S768x44 8) (ix2 r n) = A (ix3 0 r n) := by
  pointwise []

/-- The seven results, entry by entry. -/
def o0 (V0 : Valuation τ sig (Elt Ideal)) : FVec Ideal S768x5632 .bf16 := fun y => hv (xs V0) (ws V0) (ss V0) (y 0) (y 1)
def o1 (V0 : Valuation τ sig (Elt Ideal)) : IVec S768x1024 8 := fun y => pkv (n := 16) (xs V0) (y 0) (y 1)
def o2 (V0 : Valuation τ sig (Elt Ideal)) : FVec Ideal S768x16 .f32 := fun y => gS (grp (n := 16) (xs V0) (y 0) (y 1))
def o3 (V0 : Valuation τ sig (Elt Ideal)) : IVec S768x16 8 := fun y => BitVec.ofNat 8 (gN (grp (n := 16) (xs V0) (y 0) (y 1)))
def o4 (V0 : Valuation τ sig (Elt Ideal)) : IVec S768x2816 8 := fun y => pkv (n := 44) (hv (xs V0) (ws V0) (ss V0)) (y 0) (y 1)
def o5 (V0 : Valuation τ sig (Elt Ideal)) : FVec Ideal S768x44 .f32 := fun y => gS (grp (n := 44) (hv (xs V0) (ws V0) (ss V0)) (y 0) (y 1))
def o6 (V0 : Valuation τ sig (Elt Ideal)) : IVec S768x44 8 := fun y => BitVec.ofNat 8 (gN (grp (n := 44) (hv (xs V0) (ws V0) (ss V0)) (y 0) (y 1)))

theorem r0 (V0 : Valuation τ sig (Elt Ideal)) : (shapeCast S768x5632 (f100 V0) shapeCasts_S1x768x5632_S768x5632 : FVec Ideal S768x5632 .bf16) = o0 V0 := by
  funext y
  obtain ⟨r, n, rfl⟩ : ∃ (r : Fin 768) (n : Fin 5632), y = ix2 r n := ⟨y 0, y 1, eq_ix2 y⟩
  exact (sq_h _ r n).trans (f100_at V0 r n)
theorem r2 (V0 : Valuation τ sig (Elt Ideal)) : (shapeCast S768x16 (f12 V0) shapeCasts_S1x768x16_S768x16 : FVec Ideal S768x16 .f32) = o2 V0 := by
  funext y
  obtain ⟨r, n, rfl⟩ : ∃ (r : Fin 768) (n : Fin 16), y = ix2 r n := ⟨y 0, y 1, eq_ix2 y⟩
  rw [sq_s, s_12, f1_at]
  rfl
theorem r3 (V0 : Valuation τ sig (Elt Ideal)) : (shapeCast S768x16 (f27 V0) shapeCasts_S1x768x16_S768x16 : IVec S768x16 8) = o3 V0 := by
  funext y
  obtain ⟨r, n, rfl⟩ : ∃ (r : Fin 768) (n : Fin 16), y = ix2 r n := ⟨y 0, y 1, eq_ix2 y⟩
  rw [sq_z, zp_27]
  rfl
theorem r5 (V0 : Valuation τ sig (Elt Ideal)) : (shapeCast S768x44 (f113 V0) shapeCasts_S1x768x44_S768x44 : FVec Ideal S768x44 .f32) = o5 V0 := by
  funext y
  obtain ⟨r, n, rfl⟩ : ∃ (r : Fin 768) (n : Fin 44), y = ix2 r n := ⟨y 0, y 1, eq_ix2 y⟩
  rw [sq_s4, s_113, f102_at]
  rfl
theorem r6 (V0 : Valuation τ sig (Elt Ideal)) : (shapeCast S768x44 (trunci 8 (fptosi 32 (f116 V0)) natLt_8_32) shapeCasts_S1x768x44_S768x44 : IVec S768x44 8) = o6 V0 := by
  funext y
  obtain ⟨r, n, rfl⟩ : ∃ (r : Fin 768) (n : Fin 44), y = ix2 r n := ⟨y 0, y 1, eq_ix2 y⟩
  rw [sq_z4, zb_116, f102_at]
  rfl
theorem r1 (V0 : Valuation τ sig (Elt Ideal)) :
    (shapeCast S768x1024 (trunci 8 (ori (Host.slice S1x768x1024 ![0, 0, 0] ![1, 1, 2] (f29 V0) slicesBy_S1x768x2048_S1x768x1024_0s1_0s1_0s2) (Host.shli (Host.slice S1x768x1024 ![0, 0, 1] ![1, 1, 2] (f29 V0) slicesBy_S1x768x2048_S1x768x1024_0s1_0s1_1s2) (broadcastInDim S1x768x1024 ![] bcast_S_S1x768x1024 (constantI S_ 32 4#32)))) natLt_8_32) shapeCasts_S1x768x1024_S768x1024 : IVec S768x1024 8) = o1 V0 := by
  funext y
  obtain ⟨r, c, rfl⟩ : ∃ (r : Fin 768) (c : Fin 1024), y = ix2 r c := ⟨y 0, y 1, eq_ix2 y⟩
  refine (pack1_at _ r c).trans ?_
  rw [c_29, c_29, pair_ext (gC_le _ _) (gC_le _ _)]
  show _ = pkv (n := 16) (xs V0) r c
  unfold pkv
  have e1 : ∀ h, cg (n := 16) ⟨2 * c.val, h⟩ = (⟨c.val / 64, by omega⟩ : Fin 16) := fun h => Fin.ext (by unfold cg; dsimp only; omega)
  have e2 : ∀ h, cl (n := 16) ⟨2 * c.val, h⟩ = (⟨2 * (c.val % 64), by omega⟩ : Fin 128) := fun h => Fin.ext (by unfold cl; dsimp only; omega)
  have e3 : ∀ h, cg (n := 16) ⟨1 + 2 * c.val, h⟩ = (⟨c.val / 64, by omega⟩ : Fin 16) := fun h => Fin.ext (by unfold cg; dsimp only; omega)
  have e4 : ∀ h, cl (n := 16) ⟨1 + 2 * c.val, h⟩ = (⟨2 * (c.val % 64) + 1, by omega⟩ : Fin 128) := fun h => Fin.ext (by unfold cl; dsimp only; omega)
  rw [e1, e2, e3, e4]
theorem r4 (V0 : Valuation τ sig (Elt Ideal)) :
    (shapeCast S768x2816 (trunci 8 (ori (Host.slice S1x768x2816 ![0, 0, 0] ![1, 1, 2] (f130 V0) slicesBy_S1x768x5632_S1x768x2816_0s1_0s1_0s2) (Host.shli (Host.slice S1x768x2816 ![0, 0, 1] ![1, 1, 2] (f130 V0) slicesBy_S1x768x5632_S1x768x2816_0s1_0s1_1s2) (broadcastInDim S1x768x2816 ![] bcast_S_S1x768x2816 (constantI S_ 32 4#32)))) natLt_8_32) shapeCasts_S1x768x2816_S768x2816 : IVec S768x2816 8) = o4 V0 := by
  funext y
  obtain ⟨r, c, rfl⟩ : ∃ (r : Fin 768) (c : Fin 2816), y = ix2 r c := ⟨y 0, y 1, eq_ix2 y⟩
  refine (pack4_at _ r c).trans ?_
  rw [c_130, c_130, pair_ext (gC_le _ _) (gC_le _ _)]
  show _ = pkv (n := 44) (hv (xs V0) (ws V0) (ss V0)) r c
  unfold pkv
  have e1 : ∀ h, cg (n := 44) ⟨2 * c.val, h⟩ = (⟨c.val / 64, by omega⟩ : Fin 44) := fun h => Fin.ext (by unfold cg; dsimp only; omega)
  have e2 : ∀ h, cl (n := 44) ⟨2 * c.val, h⟩ = (⟨2 * (c.val % 64), by omega⟩ : Fin 128) := fun h => Fin.ext (by unfold cl; dsimp only; omega)
  have e3 : ∀ h, cg (n := 44) ⟨1 + 2 * c.val, h⟩ = (⟨c.val / 64, by omega⟩ : Fin 44) := fun h => Fin.ext (by unfold cg; dsimp only; omega)
  have e4 : ∀ h, cl (n := 44) ⟨1 + 2 * c.val, h⟩ = (⟨2 * (c.val % 64) + 1, by omega⟩ : Fin 128) := fun h => Fin.ext (by unfold cl; dsimp only; omega)
  rw [e1, e2, e3, e4]

end Cert.ReferenceIdeal.Value

end
-- ==== Proof.Value.RefC.lean ====
/- The reference's run: its seven results, entry by entry. -/
module

public import proofs.«01_k».proof.Proof.Value.RefB
public import Idealize.ShloMosaic.Lib.Tactic.CleanTypes

@[expose] public section

noncomputable section

namespace Cert.ReferenceIdeal.Value

open Idealize.ShloMosaic Idealize.ShloMosaic.TcCoe Idealize.ShloMosaic.Tactic
open Cert.ReferenceIdeal Cert.ReferenceIdeal.Gen
open Cert.KernelIdeal.Val Cert.Spec

open Idealize.SL.Sem Idealize.ShloMosaic.StableHlo

/-- The reference's run: the seven results hold what the specification says and the arguments are unchanged. -/
theorem run_results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v137) = o0 (launchContents m c)
      ∧ r.2.mem ((c.tc : Thread nD τ).loc main_v138) = o1 (launchContents m c)
      ∧ r.2.mem ((c.tc : Thread nD τ).loc main_v139) = o2 (launchContents m c)
      ∧ r.2.mem ((c.tc : Thread nD τ).loc main_v140) = o3 (launchContents m c)
      ∧ r.2.mem ((c.tc : Thread nD τ).loc main_v141) = o4 (launchContents m c)
      ∧ r.2.mem ((c.tc : Thread nD τ).loc main_v142) = o5 (launchContents m c)
      ∧ r.2.mem ((c.tc : Thread nD τ).loc main_v143) = o6 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ?_) (Cert.ReferenceIdeal.Value.run (F := Ideal) m ρ)
  obtain ⟨h0, h1, h2, h3, h4, h5, h6, h7, h8, h9⟩ := h c
  exact ⟨h0.trans (r0 _), h1.trans (r1 _), h2.trans (r2 _), h3.trans (r3 _), h4.trans (r4 _), h5.trans (r5 _), h6.trans (r6 _), h7, h8, h9⟩

end Cert.ReferenceIdeal.Value

end
-- ==== Proof.lean ====
module

public import proofs.«01_k».proof.Defs
public import proofs.«01_k».proof.Proof.Gen.Kernel
public import proofs.«01_k».proof.Proof.Frame.FrameRun
public import proofs.«01_k».proof.Proof.Gen.KernelIdeal
public import proofs.«01_k».proof.Proof.Value.KerC
public import proofs.«01_k».proof.Proof.Value.RefC
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The reference, a program of host operations alone, leaves its arguments unchanged and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) := by
  refine (θ_run _ _ _).mono (fun r h => ⟨fun c => ⟨?_, ?_, ?_⟩, sem_eq_zero_of_no_sems (by decide) r.2⟩)
    (Cert.ReferenceIdeal.Value.run (F := Ideal) m g)
  · exact (h c).2.2.2.2.2.2.2.1
  · exact (h c).2.2.2.2.2.2.2.2.1
  · exact (h c).2.2.2.2.2.2.2.2.2

/-- Kernel and reference, from memories agreeing on the arguments, end with the same seven results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Val.p0 m c, fun c => Cert.KernelIdeal.Val.p1 m c, fun c => Cert.KernelIdeal.Val.p2 m c,
    fun c => Cert.KernelIdeal.Val.p3 m c, fun c => Cert.KernelIdeal.Val.p4 m c, fun c => Cert.KernelIdeal.Val.p5 m c,
    fun c => Cert.KernelIdeal.Val.p6 m c, Cert.KernelIdeal.Val.run_results m g, ?_⟩
  refine (θ_run _ _ _).mono (fun r h c => ?_) (Cert.ReferenceIdeal.Value.run_results m' g')
  obtain ⟨h0, h1, h2, h3, h4, h5, h6, h7, h8, h9⟩ := h c
  have e0 : Cert.ReferenceIdeal.Value.a0 (StableHlo.launchContents m' c) = Cert.KernelIdeal.Val.b0 m c := (hagree c).1
  have e1 : Cert.ReferenceIdeal.Value.a1 (StableHlo.launchContents m' c) = Cert.KernelIdeal.Val.b1 m c := (hagree c).2.1
  have e2 : Cert.ReferenceIdeal.Value.a2 (StableHlo.launchContents m' c) = Cert.KernelIdeal.Val.b2 m c := (hagree c).2.2
  have hx : Cert.ReferenceIdeal.Value.xs (StableHlo.launchContents m' c) = Cert.KernelIdeal.Val.xm m c := funext fun _ => funext fun _ => congrFun e0 _
  have hw : Cert.ReferenceIdeal.Value.ws (StableHlo.launchContents m' c) = Cert.KernelIdeal.Val.wm m c := funext fun _ => funext fun _ => funext fun _ => congrFun e1 _
  have hs : Cert.ReferenceIdeal.Value.ss (StableHlo.launchContents m' c) = Cert.KernelIdeal.Val.sm m c := funext fun _ => funext fun _ => funext fun _ => congrFun e2 _
  have hh : Cert.Spec.hv (Cert.ReferenceIdeal.Value.xs (StableHlo.launchContents m' c)) (Cert.ReferenceIdeal.Value.ws (StableHlo.launchContents m' c))
      (Cert.ReferenceIdeal.Value.ss (StableHlo.launchContents m' c)) = Cert.KernelIdeal.Val.hm m c := by rw [hx, hw, hs]
  exact ⟨h0.trans (congrArg (fun (h : Fin 768 → Fin 5632 → EReal) (y : Cert.KernelIdeal.S768x5632.Idx) => h (y 0) (y 1)) hh),
    h1.trans (congrArg (fun (x : Fin 768 → Fin 2048 → EReal) (y : Cert.KernelIdeal.S768x1024.Idx) => Cert.Spec.pkv (n := 16) x (y 0) (y 1)) hx),
    h2.trans (congrArg (fun (x : Fin 768 → Fin 2048 → EReal) (y : Cert.KernelIdeal.S768x16.Idx) => Cert.KernelIdeal.Val.gS (Cert.Spec.grp (n := 16) x (y 0) (y 1))) hx),
    h3.trans (congrArg (fun (x : Fin 768 → Fin 2048 → EReal) (y : Cert.KernelIdeal.S768x16.Idx) => BitVec.ofNat 8 (Cert.KernelIdeal.Val.gN (Cert.Spec.grp (n := 16) x (y 0) (y 1)))) hx),
    h4.trans (congrArg (fun (h : Fin 768 → Fin 5632 → EReal) (y : Cert.KernelIdeal.S768x2816.Idx) => Cert.Spec.pkv (n := 44) h (y 0) (y 1)) hh),
    h5.trans (congrArg (fun (h : Fin 768 → Fin 5632 → EReal) (y : Cert.KernelIdeal.S768x44.Idx) => Cert.KernelIdeal.Val.gS (Cert.Spec.grp (n := 44) h (y 0) (y 1))) hh),
    h6.trans (congrArg (fun (h : Fin 768 → Fin 5632 → EReal) (y : Cert.KernelIdeal.S768x44.Idx) => BitVec.ofNat 8 (Cert.KernelIdeal.Val.gN (Cert.Spec.grp (n := 44) h (y 0) (y 1)))) hh),
    h7, h8, h9⟩

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Val.frame m g,
    fun m g _ => reference_frame m g, trivial, algebraic⟩

end Cert.Proof

end
